-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x3 : Shape := ⟨3, ![4, 4096, 3]⟩
abbrev S4x3x4096 : Shape := ⟨3, ![4, 3, 4096]⟩
abbrev S4x1x4096 : Shape := ⟨3, ![4, 1, 4096]⟩
abbrev S1x4096x3 : Shape := ⟨3, ![1, 4096, 3]⟩
abbrev S1x3x4096 : Shape := ⟨3, ![1, 3, 4096]⟩
abbrev S1x1x4096 : Shape := ⟨3, ![1, 1, 4096]⟩
abbrev S3x4096 : Shape := ⟨2, ![3, 4096]⟩
abbrev S4096 : Shape := ⟨1, ![4096]⟩
abbrev S1x4096 : Shape := ⟨2, ![1, 4096]⟩
abbrev S512x1 : Shape := ⟨2, ![512, 1]⟩
abbrev S512x512 : Shape := ⟨2, ![512, 512]⟩
abbrev S1x512x3 : Shape := ⟨3, ![1, 512, 3]⟩
abbrev S512x3 : Shape := ⟨2, ![512, 3]⟩
abbrev S512 : Shape := ⟨1, ![512]⟩
abbrev S512x4096 : Shape := ⟨2, ![512, 4096]⟩
abbrev S1x512 : Shape := ⟨2, ![1, 512]⟩
abbrev S1x1x512 : Shape := ⟨3, ![1, 1, 512]⟩
abbrev S4x4096 : Shape := ⟨2, ![4, 4096]⟩

abbrev nBuf : Space → Nat
  | .hbm => 7
  | .vmem => 8
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x3x4096, .f32⟩
  | .hbm, ⟨3, _⟩ => ⟨S4x1x4096, .i32⟩
  | .hbm, ⟨4, _⟩ => ⟨S4x1x4096, .i32⟩
  | .hbm, ⟨5, _⟩ => ⟨S4x4096, .i32⟩
  | .hbm, ⟨6, _⟩ => ⟨S4x4096, .i32⟩
  | .local _ .vmem, ⟨0, _⟩ => ⟨S1x4096x3, .f32⟩
  | .local _ .vmem, ⟨1, _⟩ => ⟨S1x4096x3, .f32⟩
  | .local _ .vmem, ⟨2, _⟩ => ⟨S1x3x4096, .f32⟩
  | .local _ .vmem, ⟨3, _⟩ => ⟨S1x3x4096, .f32⟩
  | .local _ .vmem, ⟨4, _⟩ => ⟨S1x1x4096, .i32⟩
  | .local _ .vmem, ⟨5, _⟩ => ⟨S1x1x4096, .i32⟩
  | .local _ .vmem, ⟨6, _⟩ => ⟨S1x1x4096, .i32⟩
  | .local _ .vmem, ⟨7, _⟩ => ⟨S1x1x4096, .i32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x4096 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S4x4096x3 : Shape := ⟨3, ![4, 4096, 3]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩
abbrev S4x4096x4096 : Shape := ⟨3, ![4, 4096, 4096]⟩

abbrev nBuf : Space → Nat
  | .hbm => 28
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096x3, .f32⟩
  | .hbm, ⟨3, _⟩ => ⟨S_, .f32⟩
  | .hbm, ⟨4, _⟩ => ⟨S4x4096, .f32⟩
  | .hbm, ⟨5, _⟩ => ⟨S4x4096x1, .f32⟩
  | .hbm, ⟨6, _⟩ => ⟨S4x4096x3, .f32⟩
  | .hbm, ⟨7, _⟩ => ⟨S_, .f32⟩
  | .hbm, ⟨8, _⟩ => ⟨S4x4096, .f32⟩
  | .hbm, ⟨9, _⟩ => ⟨S4x1x4096, .f32⟩
  | .hbm, ⟨10, _⟩ => ⟨S4x4096x4096, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S_, .f32⟩
  | .hbm, ⟨15, _⟩ => ⟨S4x4096x4096, .f32⟩
  | .hbm, ⟨16, _⟩ => ⟨S4x4096x4096, .f32⟩
  | .hbm, ⟨17, _⟩ => ⟨S4x4096x4096, .f32⟩
  | .hbm, ⟨18, _⟩ => ⟨S4x4096x4096, .i32⟩
  | .hbm, ⟨19, _⟩ => ⟨S_, .f32⟩
  | .hbm, ⟨20, _⟩ => ⟨S_, .i32⟩
  | .hbm, ⟨21, _⟩ => ⟨S4x4096, .f32⟩
  | .hbm, ⟨22, _⟩ => ⟨S4x4096, .i32⟩
  | .hbm, ⟨23, _⟩ => ⟨S4x4096x4096, .i32⟩
  | .hbm, ⟨24, _⟩ => ⟨S_, .f32⟩
  | .hbm, ⟨25, _⟩ => ⟨S_, .i32⟩
  | .hbm, ⟨26, _⟩ => ⟨S4x4096, .f32⟩
  | .hbm, ⟨27, _⟩ => ⟨S4x4096, .i32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_v0 : Ref sig .tc := ⟨.hbm, 18, rfl⟩
abbrev main_call0_cst : Ref sig .tc := ⟨.hbm, 19, rfl⟩
abbrev main_call0_c : Ref sig .tc := ⟨.hbm, 20, rfl⟩
abbrev main_call0_v1_0 : Ref sig .tc := ⟨.hbm, 21, rfl⟩
abbrev main_v13 : Ref sig .tc := ⟨.hbm, 22, rfl⟩
abbrev main_call1_v0 : Ref sig .tc := ⟨.hbm, 23, rfl⟩
abbrev main_call1_cst : Ref sig .tc := ⟨.hbm, 24, rfl⟩
abbrev main_call1_c : Ref sig .tc := ⟨.hbm, 25, rfl⟩
abbrev main_call1_v1_0 : Ref sig .tc := ⟨.hbm, 26, rfl⟩
abbrev main_v14 : Ref sig .tc := ⟨.hbm, 27, rfl⟩

abbrev nD : Nat := 1
abbrev τ : Topo := Topo.v7x

variable {F : FTy → Type} [FloatOps F]
-- ==== Proof.FirstMin.lean ====
/-
  The first place where a function takes its least value: what an arg-min returns, as plain mathematics over the
  extended reals. A function on the first `N` naturals is read as a function of all naturals; nothing past `N` matters.

  Three ways of finding that place meet here:
    - the least value first, then the least of the places that attain it (`inf_places_eq`);
    - a running least value kept with its place, replaced only by a strictly smaller one, a tile of places at a time
      (`Running`, `Running.step`, `Running.firstMin`);
    - the least pair (value, place), values first (`firstMin_of_lexLe`).
-/
module

public import Mathlib.Data.EReal.Basic
public import Mathlib.Data.Finset.Max
public import Mathlib.Data.Fintype.Basic
public import Mathlib.Data.Finset.Lattice.Fold

@[expose] public section

noncomputable section

namespace Cert.FirstMin

/-- `n` is the first of the places below `N` where `f` takes its least value: nothing is below `f n`, and everything
    before `n` is above it. -/
def FirstMin (f : ℕ → EReal) (N n : ℕ) : Prop :=
  n < N ∧ (∀ i, i < N → f n ≤ f i) ∧ ∀ i, i < n → f n < f i

/-- There is one such place at most. -/
theorem FirstMin.unique {f : ℕ → EReal} {N n n' : ℕ} (h : FirstMin f N n) (h' : FirstMin f N n') : n = n' := by
  rcases lt_trichotomy n n' with hlt | heq | hgt
  · exact absurd (h'.2.2 n hlt) (not_lt.2 (h.2.1 n' h'.1))
  · exact heq
  · exact absurd (h.2.2 n' hgt) (not_lt.2 (h'.2.1 n h.1))

/-- There is one, as soon as there is a place at all. -/
theorem exists_firstMin (f : ℕ → EReal) {N : ℕ} (hN : 0 < N) : ∃ n, FirstMin f N n := by
  classical
  have hex : ∃ n, n < N ∧ ∀ i, i < N → f n ≤ f i := by
    obtain ⟨n, hn, hmin⟩ := Finset.exists_min_image (Finset.range N) f ⟨0, Finset.mem_range.2 hN⟩
    exact ⟨n, Finset.mem_range.1 hn, fun i hi => hmin i (Finset.mem_range.2 hi)⟩
  refine ⟨Nat.find hex, (Nat.find_spec hex).1, (Nat.find_spec hex).2, fun i hi => ?_⟩
  by_contra hle
  have hiN : i < N := hi.trans (Nat.find_spec hex).1
  exact Nat.find_min hex hi ⟨hiN, fun k hk => (not_lt.1 hle).trans ((Nat.find_spec hex).2 k hk)⟩

open Classical in
/-- The first place of the least value, as a number (zero when there is no place). -/
def firstIdx (f : ℕ → EReal) (N : ℕ) : ℕ :=
  if h : ∃ n, FirstMin f N n then h.choose else 0

open Classical in
theorem FirstMin.firstIdx_eq {f : ℕ → EReal} {N n : ℕ} (h : FirstMin f N n) : firstIdx f N = n := by
  have hex : ∃ n, FirstMin f N n := ⟨n, h⟩
  unfold firstIdx
  rw [dif_pos hex]
  exact hex.choose_spec.unique h

theorem FirstMin.congr {f g : ℕ → EReal} {N n : ℕ} (h : FirstMin f N n) (hfg : ∀ i, i < N → f i = g i) :
    FirstMin g N n := by
  refine ⟨h.1, fun i hi => ?_, fun i hi => ?_⟩
  · rw [← hfg n h.1, ← hfg i hi]; exact h.2.1 i hi
  · rw [← hfg n h.1, ← hfg i (hi.trans h.1)]; exact h.2.2 i hi

/-- The least value is the one at the first place. -/
theorem FirstMin.inf_eq {f : ℕ → EReal} {N n : ℕ} (h : FirstMin f N n) :
    (Finset.univ : Finset (Fin N)).inf (fun k => f k.val) = f n :=
  le_antisymm (Finset.inf_le (f := fun k : Fin N => f k.val) (Finset.mem_univ ⟨n, h.1⟩))
    (Finset.le_inf fun k _ => h.2.1 k.val k.isLt)

/-- The least of the places that attain the least value, every other place counted as `⊤`, is the first place. -/
theorem FirstMin.inf_places_eq {f : ℕ → EReal} {N n : ℕ} (h : FirstMin f N n) :
    (Finset.univ : Finset (Fin N)).inf (fun k => if f k.val = f n then (((k.val : ℕ) : ℝ) : EReal) else ⊤)
      = ((n : ℝ) : EReal) := by
  apply le_antisymm
  · have := Finset.inf_le (f := fun k : Fin N => if f k.val = f n then (((k.val : ℕ) : ℝ) : EReal) else ⊤)
      (Finset.mem_univ ⟨n, h.1⟩)
    simpa using this
  · refine Finset.le_inf fun k _ => ?_
    split_ifs with hk
    · have : n ≤ k.val := by
        by_contra hlt
        exact absurd (h.2.2 k.val (not_le.1 hlt)) (by rw [hk]; exact lt_irrefl _)
      exact_mod_cast this
    · exact le_top

/-- A running least value `v` with its place `n` after the first `K` places: `v` is below every value met, strictly below
    those before `n`, and is either the value at `n` or still the starting `⊤`, with `n` zero. -/
def Running (f : ℕ → EReal) (K : ℕ) (v : EReal) (n : ℕ) : Prop :=
  (∀ i, i < K → v ≤ f i) ∧ (∀ i, i < n → i < K → v < f i) ∧ ((v = ⊤ ∧ n = 0) ∨ (n < K ∧ v = f n))

/-- Before any place the running value is `⊤`, its place zero. -/
theorem running_zero (f : ℕ → EReal) : Running f 0 ⊤ 0 :=
  ⟨fun i hi => absurd hi (Nat.not_lt_zero i), fun i hi => absurd hi (Nat.not_lt_zero i), Or.inl ⟨rfl, rfl⟩⟩

/-- One tile of `T` places: the running value is replaced by the tile's least value, at its first place, when that is
    strictly smaller, and is kept otherwise. -/
theorem Running.step {f : ℕ → EReal} {K T n r : ℕ} {v m : EReal} (h : Running f K v n)
    (hr : FirstMin (fun i => f (K + i)) T r) (hm : m = f (K + r)) :
    Running f (K + T) (if m < v then m else v) (if m < v then K + r else n) := by
  obtain ⟨h1, h2, h3⟩ := h
  obtain ⟨hrT, hrle, hrlt⟩ := hr
  have htile : ∀ i, K ≤ i → i < K + T → m ≤ f i := fun i hi hiT => by
    have := hrle (i - K) (by omega)
    simpa [Nat.add_sub_cancel' hi, ← hm] using this
  split_ifs with hlt
  · refine ⟨fun i hi => ?_, fun i hi hiK => ?_, Or.inr ⟨by omega, hm⟩⟩
    · by_cases hK : i < K
      · exact hlt.le.trans (h1 i hK)
      · exact htile i (not_lt.1 hK) hi
    · by_cases hK : i < K
      · exact hlt.trans_le (h1 i hK)
      · have := hrlt (i - K) (by omega)
        simpa [Nat.add_sub_cancel' (not_lt.1 hK), ← hm] using this
  · refine ⟨fun i hi => ?_, fun i hi hiK => ?_, ?_⟩
    · by_cases hK : i < K
      · exact h1 i hK
      · exact (not_lt.1 hlt).trans (htile i (not_lt.1 hK) hi)
    · have hK : i < K := by
        rcases h3 with ⟨_, h0⟩ | ⟨hn, _⟩ <;> omega
      exact h2 i hi hK
    · rcases h3 with h3 | ⟨hn, hv⟩
      · exact Or.inl h3
      · exact Or.inr ⟨by omega, hv⟩

/-- After the last place the running place is the first place of the least value, also when every value is `⊤`. -/
theorem Running.firstMin {f : ℕ → EReal} {K n : ℕ} {v : EReal} (h : Running f K v n) (hK : 0 < K) : FirstMin f K n := by
  obtain ⟨h1, h2, h3 | ⟨hn, hv⟩⟩ := h
  · obtain ⟨hv, rfl⟩ := h3
    subst hv
    refine ⟨hK, fun i hi => ?_, fun i hi => absurd hi (Nat.not_lt_zero i)⟩
    rw [top_le_iff.1 (h1 i hi)]
    exact le_top
  · subst hv
    exact ⟨hn, h1, fun i hi => h2 i hi (hi.trans hn)⟩

/-- A value and place `(v, n)` not above any pair `(f i, i)` in the order of values first, places second, and equal to one
    of them or to `(⊤, 0)`, has for place the first place of the least value. -/
theorem firstMin_of_lexLe {f : ℕ → EReal} {N n : ℕ} {v : EReal} (hN : 0 < N)
    (hle : ∀ i, i < N → v < f i ∨ (v = f i ∧ n ≤ i)) (hmem : (v = ⊤ ∧ n = 0) ∨ (n < N ∧ v = f n)) : FirstMin f N n := by
  refine Running.firstMin (v := v) ⟨fun i hi => ?_, fun i hi hiN => ?_, hmem⟩ hN
  · rcases hle i hi with h | ⟨h, _⟩
    · exact h.le
    · exact h.le
  · rcases hle i hiN with h | ⟨_, h⟩
    · exact h
    · omega

end Cert.FirstMin

end
-- ==== Proof.Words.lean ====
/-
  The words of the program read as extended reals: the float constants it writes, a place converted to a float and
  back. Every place is below 4096, so each conversion is exact.
-/
module

public import Idealize.ShloMosaic.Lib.ValueIdx

@[expose] public section

noncomputable section

namespace Cert.Words

open Idealize.ShloMosaic

/-- The word the minima start from is `+∞`. -/
theorem top_word : Ideal.ofBits .f32 0x7F800000#32 = ⊤ := by
  simp [Ideal.ofBits, Ideal.ieee]

/-- The word the reference scales the inner products by is `2`. -/
theorem two_word : Ideal.ofBits .f32 0x40000000#32 = ((2 : ℝ) : EReal) := by
  simp [Ideal.ofBits, Ideal.ieee, -EReal.coe_mul]; norm_num

/-- The float the body adds to the places of row tile `t`: the number of the tile's first row, as a word. -/
def offset (t : ℕ) : BitVec 32 :=
  match t with
  | 0 => 0x00000000#32
  | 1 => 0x44000000#32
  | 2 => 0x44800000#32
  | 3 => 0x44C00000#32
  | 4 => 0x45000000#32
  | 5 => 0x45200000#32
  | 6 => 0x45400000#32
  | _ => 0x45600000#32

/-- That word is `512 * t`. -/
theorem offset_word (t : ℕ) (ht : t < 8) : Ideal.ofBits .f32 (offset t) = (((512 * t : ℕ) : ℝ) : EReal) := by
  interval_cases t <;> simp [offset, Ideal.ofBits, Ideal.ieee, -EReal.coe_mul] <;> norm_num

/-- A small natural written as a signed word and read back is itself. -/
theorem toInt_ofNat {n : ℕ} (hn : n < 2 ^ 31) : (BitVec.ofNat 32 n).toInt = (n : ℤ) := by
  have h : (BitVec.ofNat 32 n).toNat = n := by rw [BitVec.toNat_ofNat]; omega
  rw [BitVec.toInt_eq_toNat_of_lt (by omega), h]

/-- A small natural converted to a float is that natural. -/
theorem sitofp_ofNat {n : ℕ} (hn : n < 2 ^ 31) :
    (FloatOps.sitofp (F := Ideal) .f32 (BitVec.ofNat 32 n) : EReal) = ((n : ℝ) : EReal) := by
  show (((BitVec.ofNat 32 n).toInt : ℝ) : EReal) = _
  rw [toInt_ofNat hn]; norm_num

/-- A small natural converted from a float to a word is that natural's word. -/
theorem fptosi_natCast {n : ℕ} (hn : n < 2 ^ 31) : Ideal.fptosi 32 ((n : ℝ) : EReal) = BitVec.ofNat 32 n := by
  have h : Ideal.toIntClamped (-((2 ^ (32 - 1) : ℕ) : ℤ)) (((2 ^ (32 - 1) : ℕ) : ℤ) - 1) ((n : ℝ) : EReal) = (n : ℤ) := by
    show max _ (min _ (if (0 : ℝ) ≤ (n : ℝ) then ⌊(n : ℝ)⌋ else ⌈(n : ℝ)⌉)) = _
    rw [if_pos (Nat.cast_nonneg n), Int.floor_natCast]
    omega
  rw [Ideal.fptosi, h, BitVec.ofInt_natCast]

end Cert.Words
-- ==== Proof.Distance.lean ====
/-
  The squared distances both programs compare, as plain mathematics over the extended reals. Points are functions of
  a place (any natural; only the first 4096 matter) and of one of three coordinates.

  The kernel subtracts `∑ x * (y + y)`, the reference subtracts `2 * ∑ x * y`; `dist_eq_twice` says these are one number
  for all extended reals, infinite ones included.
-/
module

public import Idealize.ShloMosaic.Lib.ValueIdx

@[expose] public section

noncomputable section

namespace Cert.Distance

open scoped BigOperators

/-- The squared distance of point `i` of the first cloud to point `j` of the second, expanded: both squared norms less
    twice the inner product, the doubling done on the second cloud's coordinates. -/
def dist (x y : ℕ → Fin 3 → EReal) (i j : ℕ) : EReal :=
  (∑ k, x i k * x i k + ∑ k, y j k * y j k) - ∑ k, x i k * (y j k + y j k)

/-- Doubling the coordinates of one factor doubles the inner product. -/
theorem inner_double (u v : Fin 3 → EReal) : ∑ k, u k * (v k + v k) = ((2 : ℝ) : EReal) * ∑ k, u k * v k := by
  have two : ∀ z : EReal, ((2 : ℝ) : EReal) * z = z + z := fun z => by
    have h := EReal.right_distrib_of_nonneg (a := 1) (b := 1) (c := z) zero_le_one zero_le_one
    rw [one_mul] at h
    rw [← h]
    refine congrArg (· * z) ?_
    show ((2 : ℝ) : EReal) = ((1 : ℝ) : EReal) + ((1 : ℝ) : EReal)
    rw [← EReal.coe_add]
    norm_num
  have pull : ∀ a b : EReal, ((2 : ℝ) : EReal) * (a + b) = ((2 : ℝ) : EReal) * a + ((2 : ℝ) : EReal) * b :=
    EReal.left_distrib_of_nonneg_of_ne_top (by norm_num) (EReal.coe_ne_top _)
  simp only [Fin.sum_univ_three, pull, ← two, mul_left_comm]

/-- The same distance with the doubling done on the inner product. -/
theorem dist_eq_twice (x y : ℕ → Fin 3 → EReal) (i j : ℕ) :
    dist x y i j = (∑ k, x i k * x i k + ∑ k, y j k * y j k) - ((2 : ℝ) : EReal) * ∑ k, x i k * y j k := by
  rw [dist, inner_double]

end Cert.Distance
-- ==== Proof.Tile.lean ====
/-
  What the body computes of one tile of 512 rows, read at an index over the extended reals.

  A tile's distances are a 512 × 4096 array (`k0_pay17_apply`). From it the body takes, for every row, the first place
  of the row's least value (`rowArgs`), and folds, for every column, the tile's least value and its first place into
  the running ones (`colMin`, `colArg`). Each is stated for any array of distances, so it serves all eight tiles.
-/
module

public import proofs.«01_k».proof.Proof.Gen.KernelIdeal.Skeleton
public import proofs.«01_k».proof.Proof.FirstMin
public import proofs.«01_k».proof.Proof.Words
public import proofs.«01_k».proof.Proof.Distance
public import Idealize.ShloMosaic.Lib.ValueLayoutCasts
public import Idealize.ShloMosaic.Lib.Pipeline.Value
public import Idealize.ShloMosaic.Lib.MatmulPlain

@[expose] public section

noncomputable section

namespace Cert.KernelIdeal.Tile

open Idealize.ShloMosaic Idealize.ShloMosaic.ValueIdx Cert.KernelIdeal Cert.KernelIdeal.Gen Cert.FirstMin
open scoped BigOperators

/-! ## Sums and minima along one axis, and a column spread over a row -/

/-- A row's sum of three. -/
theorem sum_row (v : FVec Ideal S512x3 .f32) (r : Fin 512) :
    multiReduction .add [1] S512 v 0x00000000#32 reduces_S512x3_S512 (.inl rfl) rfl (ix1 r)
      = ∑ k : Fin 3, v (ix2 r k) := by
  refine (Ideal.multiReduction_add_single v _ _ _ _ _).trans (Finset.sum_congr rfl fun k _ => congrArg v ?_)
  funext a; apply Fin.ext
  match a with
  | ⟨0, _⟩ => rfl
  | ⟨1, _⟩ => rfl

/-- A column's sum of three. -/
theorem sum_col (v : FVec Ideal S3x4096 .f32) (c : Fin 4096) :
    multiReduction .add [0] S4096 v 0x00000000#32 reduces_S3x4096_S4096 (.inl rfl) rfl (ix1 c)
      = ∑ k : Fin 3, v (ix2 k c) := by
  refine (Ideal.multiReduction_add_single v _ _ _ _ _).trans (Finset.sum_congr rfl fun k _ => congrArg v ?_)
  funext a; apply Fin.ext
  match a with
  | ⟨0, _⟩ => rfl
  | ⟨1, _⟩ => rfl

/-- The least value along one axis is the infimum over that axis's coordinates. -/
theorem min_single {s t : Shape} {a : Fin s.rank} (v : FVec Ideal s .f32) (h : s.Reduces [a] t)
    (hφ : FKind.Formats .f32) (hacc : (0x7F800000#32 : BitVec 32) = FKind.minimumf.neutral .f32 hφ) (j : t.Idx) :
    multiReduction .minimumf [a] t v 0x7F800000#32 h hφ hacc j
      = (Finset.univ : Finset (Fin (s.size a))).inf (v ∘ h.lift j) := by
  rw [multiReduction_minimumf_eq_fold]
  refine (h.fold_filter_drop_single _ _ v j).trans ?_
  show (Finset.univ : Finset (Fin (s.size a))).fold min (Ideal.ofBits .f32 0x7F800000#32) (v ∘ h.lift j) = _
  rw [Words.top_word]
  rfl

/-- A row's least value. -/
theorem min_row (v : FVec Ideal S512x4096 .f32) (r : Fin 512) :
    multiReduction .minimumf [1] S512 v 0x7F800000#32 reduces_S512x4096_S512 (.inl rfl) rfl (ix1 r)
      = (Finset.univ : Finset (Fin 4096)).inf fun c => v (ix2 r c) := by
  refine (min_single v _ _ _ _).trans (congrArg (Finset.inf _) (funext fun c => congrArg v ?_))
  funext a; apply Fin.ext
  match a with
  | ⟨0, _⟩ => rfl
  | ⟨1, _⟩ => rfl

/-- A column's least value. -/
theorem min_col (v : FVec Ideal S512x4096 .f32) (c : Fin 4096) :
    multiReduction .minimumf [0] S4096 v 0x7F800000#32 reduces_S512x4096_S4096 (.inl rfl) rfl (ix1 c)
      = (Finset.univ : Finset (Fin 512)).inf fun r => v (ix2 r c) := by
  refine (min_single v _ _ _ _).trans (congrArg (Finset.inf _) (funext fun r => congrArg v ?_))
  funext a; apply Fin.ext
  match a with
  | ⟨0, _⟩ => rfl
  | ⟨1, _⟩ => rfl

/-- A column repeated along every row reads the column. -/
theorem spread_col {α : Type} (v : S512x1.Idx → α) (r : Fin 512) (c : Fin 4096) :
    broadcastTo S512x4096 v broadcasts_S512x1_S512x4096 (ix2 r c) = v (ix2 r (0 : Fin 1)) := by
  refine broadcastTo_apply v _ (ix2 r c) (ix2 r (0 : Fin 1)) fun a => ?_
  match a with
  | ⟨0, _⟩ => rfl
  | ⟨1, _⟩ => rfl

/-- A row repeated along every column reads the row. -/
theorem spread_row {α : Type} (v : S1x4096.Idx → α) (r : Fin 512) (c : Fin 4096) :
    broadcastTo S512x4096 v broadcasts_S1x4096_S512x4096 (ix2 r c) = v (ix2 (0 : Fin 1) c) :=
  broadcastTo_1b_ab_apply v _ r c

/-! ## The distances -/

/-- The second cloud's coordinates, doubled. -/
theorem k0_pay3_apply (v0 : Vec Ideal S1x3x4096 .f32) (k : Fin 3) (c : Fin 4096) :
    k0_pay3 v0 (ix2 k c) = v0 (ix3 (0 : Fin 1) k c) + v0 (ix3 (0 : Fin 1) k c) := by
  have h : k0_pay2 v0 (ix2 k c) = v0 (ix3 (0 : Fin 1) k c) := shapeCast_1ab_ab_apply v0 _ k c
  show k0_pay2 v0 (ix2 k c) + k0_pay2 v0 (ix2 k c) = _
  rw [h]

/-- The second cloud's squared norms. -/
theorem k0_pay4_apply (v0 : Vec Ideal S1x3x4096 .f32) (c : Fin 4096) :
    k0_pay4 v0 (ix2 (0 : Fin 1) c) = ∑ k : Fin 3, v0 (ix3 (0 : Fin 1) k c) * v0 (ix3 (0 : Fin 1) k c) := by
  have h : ∀ k, k0_pay2 v0 (ix2 k c) = v0 (ix3 (0 : Fin 1) k c) := fun k => shapeCast_1ab_ab_apply v0 _ k c
  refine (shapeCast_a_1a_apply _ _ (0 : Fin 1) c).trans ((sum_col _ c).trans (Finset.sum_congr rfl fun k _ => ?_))
  show k0_pay2 v0 (ix2 k c) * k0_pay2 v0 (ix2 k c) = _
  rw [h]

/-- A tile's distances: the row's squared norm and the column's, less the product with the doubled coordinates. -/
theorem k0_pay17_apply (v2 : FVec Ideal S3x4096 .f32) (v5 : FVec Ideal S1x4096 .f32) (v57 : Vec Ideal S1x512x3 .f32)
    (r : Fin 512) (c : Fin 4096) :
    k0_pay17 v2 v5 v57 (ix2 r c)
      = (∑ k : Fin 3, v57 (ix3 (0 : Fin 1) r k) * v57 (ix3 (0 : Fin 1) r k) + v5 (ix2 (0 : Fin 1) c))
          - ∑ k : Fin 3, v57 (ix3 (0 : Fin 1) r k) * v2 (ix2 k c) := by
  have h : ∀ k, shapeCast S512x3 v57 shapeCasts_S1x512x3_S512x3 (ix2 r k) = v57 (ix3 (0 : Fin 1) r k) :=
    fun k => shapeCast_1ab_ab_apply v57 _ r k
  have hn := (spread_col (shapeCast S512x1 (multiReduction .add [1] S512
      (mulf (shapeCast S512x3 v57 shapeCasts_S1x512x3_S512x3) (shapeCast S512x3 v57 shapeCasts_S1x512x3_S512x3))
      0x00000000#32 reduces_S512x3_S512 (.inl rfl) rfl) shapeCasts_S512_S512x1) r c).trans
    ((shapeCast_a_a1_apply _ _ r (0 : Fin 1)).trans (sum_row _ r))
  have hp := Ideal.matmul_plain_apply (M := 512) (K := 3) (N := 4096) (φ₁ := .f32) (φ₂ := .f32) none
    (shapeCast S512x3 v57 shapeCasts_S1x512x3_S512x3) v2 (constant S512x4096 .f32 0x00000000#32) r c
  have hz : (constant S512x4096 .f32 0x00000000#32 : FVec Ideal S512x4096 .f32) (ix2 r c) = 0 := Ideal.ofBits_zero_f32
  rw [hz, zero_add] at hp
  refine (congrArg₂ (· - ·) (congrArg₂ (· + ·) hn (spread_row v5 r c)) hp).trans ?_
  refine congrArg₂ (· - ·) (congrArg (· + _) (Finset.sum_congr rfl fun k _ => ?_)) (Finset.sum_congr rfl fun k _ => ?_)
  · rw [mulf_apply, h]
  · rw [h]

/-! ## The first place of each row's least value -/

/-- The places of the columns, as floats. -/
theorem k0_pay5_apply (c : Fin 4096) : (k0_pay5 (F := Ideal)) (ix2 (0 : Fin 1) c) = (((c.val : ℕ) : ℝ) : EReal) := by
  have h : iota .tc S1x4096 32 [1] iota_S1x4096_d1_w32 (ix2 (0 : Fin 1) c) = BitVec.ofNat 32 c.val :=
    iota_single_apply .tc S1x4096 32 1 _ _
  show FloatOps.sitofp (F := Ideal) .f32 (iota .tc S1x4096 32 [1] iota_S1x4096_d1_w32 (ix2 (0 : Fin 1) c)) = _
  rw [h]
  exact Words.sitofp_ofNat (by have := c.isLt; omega)

/-- The places of a tile's rows, as floats. -/
theorem k0_pay6_apply (r : Fin 512) : (k0_pay6 (F := Ideal)) (ix2 r (0 : Fin 1)) = (((r.val : ℕ) : ℝ) : EReal) := by
  have h : iota .tc S512x1 32 [0] iota_S512x1_d0_w32 (ix2 r (0 : Fin 1)) = BitVec.ofNat 32 r.val :=
    iota_single_apply .tc S512x1 32 0 _ _
  show FloatOps.sitofp (F := Ideal) .f32 (iota .tc S512x1 32 [0] iota_S512x1_d0_w32 (ix2 r (0 : Fin 1))) = _
  rw [h]
  exact Words.sitofp_ofNat (by have := r.isLt; omega)

/-- The identity matrix. -/
theorem k0_pay7_apply (k r : Fin 512) : (k0_pay7 (F := Ideal)) (ix2 k r) = if k = r then 1 else 0 := by
  have h0 : iota .tc S512x512 32 [0] iota_S512x512_d0_w32 (ix2 k r) = BitVec.ofNat 32 k.val :=
    iota_single_apply .tc S512x512 32 0 _ _
  have h1 : iota .tc S512x512 32 [1] iota_S512x512_d1_w32 (ix2 k r) = BitVec.ofNat 32 r.val :=
    iota_single_apply .tc S512x512 32 1 _ _
  show FloatOps.sitofp (F := Ideal) .f32 (BitVec.setWidth 32 (IntOp.cmpi .eq
    (iota .tc S512x512 32 [0] iota_S512x512_d0_w32 (ix2 k r)) (iota .tc S512x512 32 [1] iota_S512x512_d1_w32 (ix2 k r)))) = _
  rw [h0, h1]
  by_cases hkr : k = r
  · subst hkr
    rw [if_pos rfl]
    have hb : BitVec.setWidth 32 (IntOp.cmpi .eq (BitVec.ofNat 32 k.val) (BitVec.ofNat 32 k.val)) = BitVec.ofNat 32 1 := by
      simp [IntOp.cmpi]
    rw [hb, Words.sitofp_ofNat (by norm_num)]
    norm_num
  · rw [if_neg hkr]
    have hne : ¬ BitVec.ofNat 32 k.val = BitVec.ofNat 32 r.val := fun e => hkr (Fin.ext (by
      have := congrArg BitVec.toNat e
      rw [BitVec.toNat_ofNat, BitVec.toNat_ofNat] at this
      have := k.isLt; have := r.isLt
      omega))
    have hb : BitVec.setWidth 32 (IntOp.cmpi .eq (BitVec.ofNat 32 k.val) (BitVec.ofNat 32 r.val)) = BitVec.ofNat 32 0 := by
      show BitVec.setWidth 32 (BitVec.ofBool (BitVec.ofNat 32 k.val == BitVec.ofNat 32 r.val)) = _
      rw [beq_eq_false_iff_ne.2 hne]
      rfl
    rw [hb, Words.sitofp_ofNat (by norm_num)]
    norm_num

/-- For every row of an array of distances, the first place of the row's least value, as a column of floats: the least
    of the places that attain it. -/
def rowPlaces (d : FVec Ideal S512x4096 .f32) : FVec Ideal S512x1 .f32 :=
  shapeCast S512x1 (multiReduction .minimumf [1] S512
    (select
      (cmpf .oeq d (broadcastTo S512x4096 (shapeCast S512x1
        (multiReduction .minimumf [1] S512 d 0x7F800000#32 reduces_S512x4096_S512 (.inl rfl) rfl) shapeCasts_S512_S512x1)
        broadcasts_S512x1_S512x4096))
      (broadcastTo S512x4096 (shapeCast S1x4096 (k0_pay5 (F := Ideal)) shapeCasts_S1x4096_S1x4096) broadcasts_S1x4096_S512x4096)
      (broadcast S512x4096 (Scalar.ofBits .f32 0x7F800000#32)))
    0x7F800000#32 reduces_S512x4096_S512 (.inl rfl) rfl) shapeCasts_S512_S512x1

/-- The same places as a row of words: the column turned by a product with the identity. -/
def rowArgs (d : FVec Ideal S512x4096 .f32) : IVec S1x512 32 :=
  fptosi 32 (matmul dot_S512x1_S512x512_S1x512_0_0_1_1_n_n none (rowPlaces d) (k0_pay7 (F := Ideal))
    (constant S1x512 .f32 0x00000000#32))

/-- Choosing on an equality of two extended reals. -/
theorem select_oeq {α : Type} (x y : EReal) (a b : α) :
    Scalar.select (FloatOps.cmpf (F := Ideal) (φ := .f32) .oeq x y) a b = if x = y then a else b := by
  show Scalar.select (BitVec.ofBool (decide (x = y))) a b = _
  by_cases h : x = y
  · rw [if_pos h, decide_eq_true h]; rfl
  · rw [if_neg h, decide_eq_false h]; rfl

/-- Choosing on a strict order of two extended reals. -/
theorem select_olt {α : Type} (x y : EReal) (a b : α) :
    Scalar.select (FloatOps.cmpf (F := Ideal) (φ := .f32) .olt x y) a b = if x < y then a else b := by
  show Scalar.select (BitVec.ofBool (decide (x < y))) a b = _
  by_cases h : x < y
  · rw [if_pos h, decide_eq_true h]; rfl
  · rw [if_neg h, decide_eq_false h]; rfl

/-- A row's place is where the row first takes its least value. -/
theorem rowPlaces_apply (d : FVec Ideal S512x4096 .f32) (r : Fin 512) (f : ℕ → EReal) (n : ℕ)
    (hf : ∀ c : Fin 4096, d (ix2 r c) = f c.val) (h : FirstMin f 4096 n) :
    rowPlaces d (ix2 r (0 : Fin 1)) = ((n : ℝ) : EReal) := by
  refine (shapeCast_a_a1_apply _ _ r (0 : Fin 1)).trans ((min_row _ r).trans ?_)
  refine (congrArg (Finset.inf _) (funext fun c => ?_)).trans h.inf_places_eq
  rw [select_apply, cmpf_apply, spread_col, spread_row, shapeCast_a_a1_apply, shapeCast_self, select_oeq, k0_pay5_apply,
    min_row, hf c]
  have hinf : ((Finset.univ : Finset (Fin 4096)).inf fun c => d (ix2 r c)) = f n :=
    (congrArg (Finset.inf _) (funext hf)).trans h.inf_eq
  have htop : broadcast S512x4096 (Scalar.ofBits (F := Ideal) .f32 0x7F800000#32) (ix2 r c) = ⊤ := Words.top_word
  rw [hinf, htop]

/-- A row's word is where the row first takes its least value. -/
theorem rowArgs_apply (d : FVec Ideal S512x4096 .f32) (r : Fin 512) (f : ℕ → EReal) (n : ℕ)
    (hf : ∀ c : Fin 4096, d (ix2 r c) = f c.val) (h : FirstMin f 4096 n) :
    rowArgs d (ix2 (0 : Fin 1) r) = BitVec.ofNat 32 n := by
  have hm : matmul dot_S512x1_S512x512_S1x512_0_0_1_1_n_n none (rowPlaces d) (k0_pay7 (F := Ideal))
      (constant S1x512 .f32 0x00000000#32) (ix2 (0 : Fin 1) r) = ((n : ℝ) : EReal) := by
    refine (Ideal.matmul_constant_zero_apply _ none (rowPlaces d) (k0_pay7 (F := Ideal)) (ix2 (0 : Fin 1) r)).trans ?_
    rw [← Equiv.sum_comp (contrEquiv1 dot_S512x1_S512x512_S1x512_0_0_1_1_n_n 512 rfl rfl).symm, Finset.sum_eq_single r]
    · have hk := contrEquiv1_symm_val dot_S512x1_S512x512_S1x512_0_0_1_1_n_n 512 rfl rfl r
      have hl : dot_S512x1_S512x512_S1x512_0_0_1_1_n_n.lhsIdx (ix2 (0 : Fin 1) r)
          ((contrEquiv1 dot_S512x1_S512x512_S1x512_0_0_1_1_n_n 512 rfl rfl).symm r) = ix2 r (0 : Fin 1) := by
        funext a; apply Fin.ext
        match a with
        | ⟨0, _⟩ => exact hk
        | ⟨1, _⟩ => rfl
      have hr : dot_S512x1_S512x512_S1x512_0_0_1_1_n_n.rhsIdx (ix2 (0 : Fin 1) r)
          ((contrEquiv1 dot_S512x1_S512x512_S1x512_0_0_1_1_n_n 512 rfl rfl).symm r) = ix2 r r := by
        funext a; apply Fin.ext
        match a with
        | ⟨0, _⟩ => exact hk
        | ⟨1, _⟩ => rfl
      rw [hl, hr, k0_pay7_apply, if_pos rfl, mul_one]
      exact rowPlaces_apply d r f n hf h
    · intro k _ hkr
      have hk := contrEquiv1_symm_val dot_S512x1_S512x512_S1x512_0_0_1_1_n_n 512 rfl rfl k
      have hr : dot_S512x1_S512x512_S1x512_0_0_1_1_n_n.rhsIdx (ix2 (0 : Fin 1) r)
          ((contrEquiv1 dot_S512x1_S512x512_S1x512_0_0_1_1_n_n 512 rfl rfl).symm k) = ix2 k r := by
        funext a; apply Fin.ext
        match a with
        | ⟨0, _⟩ => exact hk
        | ⟨1, _⟩ => rfl
      rw [hr, k0_pay7_apply, if_neg hkr, mul_zero]
    · intro hnot; exact absurd (Finset.mem_univ r) hnot
  show Ideal.fptosi 32 (matmul dot_S512x1_S512x512_S1x512_0_0_1_1_n_n none (rowPlaces d) (k0_pay7 (F := Ideal))
      (constant S1x512 .f32 0x00000000#32) (ix2 (0 : Fin 1) r)) = _
  rw [hm]
  exact Words.fptosi_natCast (by have := h.1; omega)

/-! ## The columns' running least value and its place -/

/-- A tile's least value in every column. -/
def colLeast (d : FVec Ideal S512x4096 .f32) : FVec Ideal S1x4096 .f32 :=
  shapeCast S1x4096 (multiReduction .minimumf [0] S4096 d 0x7F800000#32 reduces_S512x4096_S4096 (.inl rfl) rfl)
    shapeCasts_S4096_S1x4096

/-- The running least value of every column after a tile: the tile's if strictly smaller. -/
def colMin (cm : FVec Ideal S1x4096 .f32) (d : FVec Ideal S512x4096 .f32) : FVec Ideal S1x4096 .f32 :=
  select (cmpf .olt (colLeast d) cm) (colLeast d) cm

/-- The place of that value: the tile's own first place, moved by the tile's offset, if the tile's value is strictly
    smaller. -/
def colArg (w : BitVec 32) (cm ca : FVec Ideal S1x4096 .f32) (d : FVec Ideal S512x4096 .f32) : FVec Ideal S1x4096 .f32 :=
  select (cmpf .olt (colLeast d) cm)
    (addf (shapeCast S1x4096 (multiReduction .minimumf [0] S4096
        (select (cmpf .oeq d (broadcastTo S512x4096 (colLeast d) broadcasts_S1x4096_S512x4096))
          (broadcastTo S512x4096 (shapeCast S512x1 (k0_pay6 (F := Ideal)) shapeCasts_S512x1_S512x1) broadcasts_S512x1_S512x4096)
          (broadcast S512x4096 (Scalar.ofBits .f32 0x7F800000#32)))
        0x7F800000#32 reduces_S512x4096_S4096 (.inl rfl) rfl) shapeCasts_S4096_S1x4096)
      (broadcast S1x4096 (Scalar.ofBits .f32 w)))
    ca

/-- A tile's least value in a column, by its first place. -/
theorem colLeast_apply (d : FVec Ideal S512x4096 .f32) (c : Fin 4096) (f : ℕ → EReal) (n : ℕ)
    (hf : ∀ r : Fin 512, d (ix2 r c) = f r.val) (h : FirstMin f 512 n) : colLeast d (ix2 (0 : Fin 1) c) = f n :=
  (shapeCast_a_1a_apply _ _ (0 : Fin 1) c).trans
    ((min_col d c).trans ((congrArg (Finset.inf _) (funext hf)).trans h.inf_eq))

/-- The running least value, read at a column. -/
theorem colMin_apply (cm : FVec Ideal S1x4096 .f32) (d : FVec Ideal S512x4096 .f32) (c : Fin 4096) (f : ℕ → EReal) (n : ℕ)
    (hf : ∀ r : Fin 512, d (ix2 r c) = f r.val) (h : FirstMin f 512 n) :
    colMin cm d (ix2 (0 : Fin 1) c) = if f n < cm (ix2 (0 : Fin 1) c) then f n else cm (ix2 (0 : Fin 1) c) := by
  rw [colMin, select_apply, cmpf_apply, select_olt, colLeast_apply d c f n hf h]

/-- Its place, read at a column. -/
theorem colArg_apply (w : BitVec 32) (cm ca : FVec Ideal S1x4096 .f32) (d : FVec Ideal S512x4096 .f32) (c : Fin 4096)
    (f : ℕ → EReal) (n : ℕ) (hf : ∀ r : Fin 512, d (ix2 r c) = f r.val) (h : FirstMin f 512 n) :
    colArg w cm ca d (ix2 (0 : Fin 1) c)
      = if f n < cm (ix2 (0 : Fin 1) c) then ((n : ℝ) : EReal) + Ideal.ofBits .f32 w else ca (ix2 (0 : Fin 1) c) := by
  rw [colArg, select_apply, cmpf_apply, select_olt, colLeast_apply d c f n hf h, addf_apply]
  refine congrArg (fun z : EReal => if f n < cm (ix2 (0 : Fin 1) c) then z + Ideal.ofBits .f32 w
    else ca (ix2 (0 : Fin 1) c)) ?_
  refine (shapeCast_a_1a_apply _ _ (0 : Fin 1) c).trans ((min_col _ c).trans ?_)
  refine (congrArg (Finset.inf _) (funext fun r => ?_)).trans h.inf_places_eq
  have htop : broadcast S512x4096 (Scalar.ofBits (F := Ideal) .f32 0x7F800000#32) (ix2 r c) = ⊤ := Words.top_word
  rw [select_apply, cmpf_apply, spread_col, spread_row, shapeCast_self, select_oeq, k0_pay6_apply,
    colLeast_apply d c f n hf h, hf r, htop]

end Cert.KernelIdeal.Tile
-- ==== Proof.Block.lean ====
/-
  What the body leaves in its two output blocks, from its two input blocks, over the extended reals.

  The first output holds, for every point of the first cloud, the first place of the nearest point of the second: eight
  stores of 512 words, all pieces of one function (`out0_2_apply`). The second holds, for every point of the second cloud,
  the first place of the nearest point of the first: one store of what the running minimum over the eight row tiles kept
  (`running`, `out0_3_apply`).
-/
module

public import proofs.«01_k».proof.Proof.Tile
public import proofs.«01_k».proof.Proof.Gen.KernelIdeal.Frame

@[expose] public section

noncomputable section

namespace Cert.KernelIdeal.Block

open Idealize.ShloMosaic Idealize.ShloMosaic.ValueIdx Cert.KernelIdeal Cert.KernelIdeal.Gen Cert.FirstMin Cert.Distance
open Cert.KernelIdeal.Tile
open scoped BigOperators

/-- The first cloud's points, from its block. -/
def px (x0 : Vec Ideal S1x4096x3 .f32) (i : ℕ) (k : Fin 3) : EReal := x0 (ix3 (0 : Fin 1) (Fin.ofNat 4096 i) k)

/-- The second cloud's points, from its transposed block. -/
def py (x1 : Vec Ideal S1x3x4096 .f32) (j : ℕ) (k : Fin 3) : EReal := x1 (ix3 (0 : Fin 1) k (Fin.ofNat 4096 j))

/-- The rows of tile `t` in the first cloud's block. -/
abbrev rowRect (t : ℕ) : Rect S1x4096x3 :=
  Rect.unit (s := S1x4096x3) ![0, 512 * (t % 8), 0] S1x512x3.size (by
    have := Nat.mod_lt t (show 0 < 8 by norm_num)
    intro a
    match a with
    | ⟨0, _⟩ => exact Nat.le_refl _
    | ⟨1, _⟩ => show 512 * (t % 8) + 512 ≤ 4096; omega
    | ⟨2, _⟩ => exact Nat.le_refl _)

/-- The places of tile `t`'s rows in the first output block. -/
abbrev outRect (t : ℕ) : Rect S1x1x4096 :=
  Rect.unit (s := S1x1x4096) ![0, 0, 512 * (t % 8)] S1x1x512.size (by
    have := Nat.mod_lt t (show 0 < 8 by norm_num)
    intro a
    match a with
    | ⟨0, _⟩ => exact Nat.le_refl _
    | ⟨1, _⟩ => exact Nat.le_refl _
    | ⟨2, _⟩ => show 512 * (t % 8) + 512 ≤ 4096; omega)

variable (x0 : Vec Ideal S1x4096x3 .f32) (x1 : Vec Ideal S1x3x4096 .f32)

/-- The distances of tile `t`. -/
def tileDist (t : ℕ) : FVec Ideal S512x4096 .f32 :=
  k0_pay17 (k0_pay3 (View.ld x1 r0_0)) (k0_pay4 (View.ld x1 r0_0)) (View.ld x0 (rowRect t))

/-- A tile's distances are those of its rows to every point of the second cloud. -/
theorem tileDist_apply (t : ℕ) (ht : t < 8) (r : Fin 512) (c : Fin 4096) :
    tileDist x0 x1 t (ix2 r c) = dist (px x0) (py x1) (512 * t + r.val) c.val := by
  have hx : ∀ k : Fin 3, View.ld x0 (rowRect t) (ix3 (0 : Fin 1) r k) = px x0 (512 * t + r.val) k := fun k => by
    refine congrArg x0 (funext fun a => Fin.ext ?_)
    have := r.isLt
    match a with
    | ⟨0, _⟩ => rfl
    | ⟨1, _⟩ => show 512 * (t % 8) + 1 * r.val = (512 * t + r.val) % 4096; omega
    | ⟨2, _⟩ => show 0 + 1 * k.val = k.val; omega
  have hy : ∀ k : Fin 3, View.ld x1 r0_0 (ix3 (0 : Fin 1) k c) = py x1 c.val k := fun k => by
    refine congrArg x1 (funext fun a => Fin.ext ?_)
    have := c.isLt
    match a with
    | ⟨0, _⟩ => rfl
    | ⟨1, _⟩ => show 0 + 1 * k.val = k.val; omega
    | ⟨2, _⟩ => show 0 + 1 * c.val = c.val % 4096; omega
  refine (k0_pay17_apply _ _ (View.ld x0 (rowRect t)) r c).trans ?_
  rw [k0_pay4_apply, Distance.dist]
  simp only [k0_pay3_apply, hx, hy]

/-! ## The first output: a row tile at a time -/

/-- The first output's element at a place: the nearest point of the second cloud. -/
def nearest (y : S1x1x4096.Idx) : BitVec 32 :=
  BitVec.ofNat 32 (firstIdx (fun j => dist (px x0) (py x1) (y 2).val j) 4096)

/-- What tile `t` stores. -/
def rowStore (t : ℕ) : IVec S1x1x512 32 :=
  shapeCast S1x1x512 (rowArgs (tileDist x0 x1 t)) shapeCasts_S1x512_S1x1x512

/-- A tile's store is the piece of `nearest` its rectangle names. -/
theorem rowStore_apply (t : ℕ) (ht : t < 8) (x : S1x1x512.Idx) :
    rowStore x0 x1 t x = nearest x0 x1 ((outRect t).emb x) := by
  obtain ⟨u, v, r, rfl⟩ : ∃ u v r, x = ix3 u v r := ⟨_, _, _, eq_ix3 x⟩
  obtain rfl : v = 0 := Fin.ext (by omega)
  have hr : (((outRect t).emb (ix3 u (0 : Fin 1) r)) 2).val = 512 * t + r.val := by
    show 512 * (t % 8) + 1 * r.val = 512 * t + r.val
    omega
  obtain ⟨n, hn⟩ := exists_firstMin (fun j => dist (px x0) (py x1) (512 * t + r.val) j) (N := 4096) (by norm_num)
  rw [nearest, hr, hn.firstIdx_eq]
  exact (shapeCast_ab_1ab_apply _ _ u (0 : Fin 1) r).trans
    (rowArgs_apply _ r _ n (fun c => tileDist_apply x0 x1 t ht r c) hn)

/-- The first output block is the eight tiles' stores. -/
theorem out0_2_eq : out0_2 x0 x1 = View.canon ([7, 6, 5, 4, 3, 2, 1, 0].map fun t =>
    (⟨outRect t, rowStore x0 x1 t⟩ : View.Piece (Elt Ideal) S1x1x4096 .i32)) := by
  unfold_out out0_2
  rfl

/-- The first output block: for every point of the first cloud, the nearest point of the second. -/
theorem out0_2_apply (y : S1x1x4096.Idx) : out0_2 x0 x1 y = nearest x0 x1 y := by
  rw [out0_2_eq]
  refine View.canon_apply_of_pieces (Val := Elt Ideal) (e := .i32) (nearest x0 x1) _ (fun p hp x => ?_) y ?_
  · obtain ⟨t, ht, rfl⟩ := List.mem_map.1 hp
    exact rowStore_apply x0 x1 t (by simp at ht; omega) x
  · exact cover0_2 (F := Ideal) _ _ _ _ _ _ _ _ y

/-! ## The second output: a running minimum over the tiles -/

/-- Every column's least value over the first `t` tiles. -/
def least : ℕ → FVec Ideal S1x4096 .f32
  | 0 => k0_pay8
  | t + 1 => colMin (least t) (tileDist x0 x1 t)

/-- The place of that value. -/
def place : ℕ → FVec Ideal S1x4096 .f32
  | 0 => k0_pay9
  | t + 1 => colArg (Words.offset t) (least x0 x1 t) (place t) (tileDist x0 x1 t)

/-- After `t` tiles a column holds the least of its first `512 * t` distances and the first place of that value. -/
theorem running (c : Fin 4096) : ∀ t, t ≤ 8 → ∃ n,
    Running (fun i => dist (px x0) (py x1) i c.val) (512 * t) (least x0 x1 t (ix2 (0 : Fin 1) c)) n
      ∧ place x0 x1 t (ix2 (0 : Fin 1) c) = ((n : ℝ) : EReal)
  | 0, _ => by
    refine ⟨0, ?_, ?_⟩
    · have h : least x0 x1 0 (ix2 (0 : Fin 1) c) = ⊤ := Words.top_word
      rw [h]
      exact running_zero _
    · refine (Ideal.ofBits_zero_f32 : place x0 x1 0 (ix2 (0 : Fin 1) c) = 0).trans ?_
      norm_num
  | t + 1, ht => by
    obtain ⟨n, hn, hp⟩ := running c t (by omega)
    obtain ⟨r, hr⟩ := exists_firstMin (fun i => dist (px x0) (py x1) (512 * t + i) c.val) (N := 512) (by norm_num)
    have hd := fun r : Fin 512 => tileDist_apply x0 x1 t (by omega) r c
    have hm := colMin_apply (least x0 x1 t) (tileDist x0 x1 t) c _ r hd hr
    have ha := colArg_apply (Words.offset t) (least x0 x1 t) (place x0 x1 t) (tileDist x0 x1 t) c _ r hd hr
    have hs := hn.step hr rfl
    rw [← hm] at hs
    refine ⟨_, hs, ha.trans ?_⟩
    rw [Words.offset_word t (by omega), hp]
    split
    · rw [← EReal.coe_add, add_comm]
      push_cast
      rfl
    · rfl

set_option maxHeartbeats 1000000 in
/-- The second output block is the places after all eight tiles, as words. -/
theorem out0_3_eq : out0_3 x0 x1 = k0_pay1 (fptosi 32 (place x0 x1 8)) := by
  unfold_out out0_3
  rw [View.canon_unit_zero (by funext a; fin_cases a <;> rfl)]
  rfl

/-- The second output block: for every point of the second cloud, the nearest point of the first. -/
theorem out0_3_apply (y : S1x1x4096.Idx) :
    out0_3 x0 x1 y = BitVec.ofNat 32 (firstIdx (fun i => dist (px x0) (py x1) i (y 2).val) 4096) := by
  obtain ⟨u, v, c, rfl⟩ : ∃ u v c, y = ix3 u v c := ⟨_, _, _, eq_ix3 y⟩
  obtain rfl : v = 0 := Fin.ext (by omega)
  obtain ⟨n, hn, hp⟩ := running x0 x1 c 8 le_rfl
  have h := hn.firstMin (by norm_num)
  have hi : firstIdx (fun i => dist (px x0) (py x1) i c.val) 4096 = n := h.firstIdx_eq
  show _ = BitVec.ofNat 32 (firstIdx (fun i => dist (px x0) (py x1) i c.val) 4096)
  rw [out0_3_eq, hi]
  refine (shapeCast_ab_1ab_apply (fptosi 32 (place x0 x1 8)) shapeCasts_S1x4096_S1x1x4096 u (0 : Fin 1) c).trans ?_
  show Ideal.fptosi 32 (place x0 x1 8 (ix2 (0 : Fin 1) c)) = _
  rw [hp]
  exact Words.fptosi_natCast (by have := h.1; omega)

end Cert.KernelIdeal.Block
-- ==== Proof.Spec.lean ====
/-
  The two results as plain mathematics, from the two argument arrays: for every point of one cloud, the first place of
  the nearest point of the other, in the same batch. Both programs are shown to return these arrays.
-/
module

public import proofs.«01_k».proof.Proof.FirstMin
public import proofs.«01_k».proof.Proof.Distance

@[expose] public section

noncomputable section

namespace Cert.Spec

open Idealize.ShloMosaic Idealize.ShloMosaic.ValueIdx Cert.FirstMin Cert.Distance

/-- The shape of an argument: four batches of 4096 points of three coordinates. -/
abbrev Clouds : Shape := ⟨3, ![4, 4096, 3]⟩

/-- The shape of a result: four batches of 4096 places. -/
abbrev Places : Shape := ⟨2, ![4, 4096]⟩

/-- The points of batch `b`. -/
def points (A : Clouds.Idx → EReal) (b : Fin 4) (i : ℕ) (k : Fin 3) : EReal := A (ix3 b (Fin.ofNat 4096 i) k)

/-- For every point of the first cloud, the first place of the nearest point of the second. -/
def toSecond (A B : Clouds.Idx → EReal) (y : Places.Idx) : BitVec 32 :=
  BitVec.ofNat 32 (firstIdx (fun j => dist (points A (y 0)) (points B (y 0)) (y 1).val j) 4096)

/-- For every point of the second cloud, the first place of the nearest point of the first. -/
def toFirst (A B : Clouds.Idx → EReal) (y : Places.Idx) : BitVec 32 :=
  BitVec.ofNat 32 (firstIdx (fun i => dist (points A (y 0)) (points B (y 0)) i (y 1).val) 4096)

end Cert.Spec
-- ==== Proof.Arrays.lean ====
/-
  What the kernel's result arrays hold after a run, over the extended reals: each batch's blocks are the batch's clouds,
  the pipeline's arrays collect the four batches' output blocks, and the host casts them to the results' shape.
-/
module

public import proofs.«01_k».proof.Proof.Block
public import proofs.«01_k».proof.Proof.Spec
public import Idealize.ShloMosaic.Lib.Pipeline.ValueKit

@[expose] public section

noncomputable section

namespace Cert.KernelIdeal.Arrays

open Idealize.ShloMosaic hiding ix1 ix2 ix3 eq_ix2 eq_ix3
open Idealize.ShloMosaic.ValueIdx Idealize.ShloMosaic.TcCoe Idealize.SL.Sem
open Cert.KernelIdeal Cert.KernelIdeal.Gen Cert.KernelIdeal.Block Cert.Spec Cert.Distance Cert.FirstMin
open Idealize.ShloMosaic.Pipeline (Dat)

variable (m : (ℓ : Loc nD τ sig) → Buf (Elt Ideal) ℓ) (ρ : Dev nD → PrngReg)

/-- The first cloud's array on device `c`. -/
abbrev arg0 (c : Dev nD) : Clouds.Idx → EReal := m ((c : Thread nD τ).loc main_arg0)

/-- The second cloud's array on device `c`. -/
abbrev arg1 (c : Dev nD) : Clouds.Idx → EReal := m ((c : Thread nD τ).loc main_arg1)

/-- The batch of a grid point. -/
abbrev batch (t : Fin cfg0.N) : Fin 4 := ⟨t.val, t.isLt⟩

/-- Each window's block at a grid point is the point's batch. -/
theorem index0 : ∀ t : Fin cfg0.N, win0_0.index t (0 : Fin 3) = t.val ∧ win0_0.index t (1 : Fin 3) = 0 ∧ win0_0.index t (2 : Fin 3) = 0 :=
  (by decide +kernel : ∀ t : Fin grid0.N, _)
theorem index1 : ∀ t : Fin cfg0.N, win0_1.index t (0 : Fin 3) = t.val ∧ win0_1.index t (1 : Fin 3) = 0 ∧ win0_1.index t (2 : Fin 3) = 0 :=
  (by decide +kernel : ∀ t : Fin grid0.N, _)
theorem index2 : ∀ t : Fin cfg0.N, win0_2.index t (0 : Fin 3) = t.val ∧ win0_2.index t (1 : Fin 3) = 0 ∧ win0_2.index t (2 : Fin 3) = 0 :=
  (by decide +kernel : ∀ t : Fin grid0.N, _)
theorem index3 : ∀ t : Fin cfg0.N, win0_3.index t (0 : Fin 3) = t.val ∧ win0_3.index t (1 : Fin 3) = 0 ∧ win0_3.index t (2 : Fin 3) = 0 :=
  (by decide +kernel : ∀ t : Fin grid0.N, _)

/-- The second window's array is the second cloud's, its last two axes exchanged. -/
theorem V_main_v0 (c : Dev nD) :
    V m c main_v0 = transpose S4x3x4096 [0, 2, 1] (m ((c : Thread nD τ).loc main_arg1)) transposes_S4x4096x3_S4x3x4096_0_2_1 := by
  show StableHlo.after (List.flatten [hostOps0]) (fun b => m (c, b)) (Proc.devRef .tc main_v0) = _
  simp only [hostOps0, List.flatten_cons, List.flatten_nil, List.append_nil]
  after_results

/-- The first cloud's points, from a grid point's block. -/
theorem px_iblk (c : Dev nD) (t : Fin cfg0.N) : px (iblk m c 0 t) = points (arg0 m c) (batch t) := by
  obtain ⟨e0, e1, e2⟩ := index0 t
  funext i k
  show V m c main_arg0 (((cfg0.win 0).blk t).view.emb (ix3 (0 : Fin 1) (Fin.ofNat 4096 i) k)) = _
  rw [V_main_arg0]
  refine congrArg (m ((c : Thread nD τ).loc main_arg0)) (funext fun a => Fin.ext ?_)
  match a with
  | ⟨0, _⟩ => show win0_0.index t (0 : Fin 3) * 1 + 1 * 0 = t.val; omega
  | ⟨1, _⟩ => show win0_0.index t (1 : Fin 3) * 4096 + 1 * (Fin.ofNat 4096 i).val = (Fin.ofNat 4096 i).val; omega
  | ⟨2, _⟩ => show win0_0.index t (2 : Fin 3) * 3 + 1 * k.val = k.val; omega

/-- The second cloud's points, from a grid point's block. -/
theorem py_iblk (c : Dev nD) (t : Fin cfg0.N) : py (iblk m c 1 t) = points (arg1 m c) (batch t) := by
  obtain ⟨e0, e1, e2⟩ := index1 t
  funext j k
  show V m c main_v0 (((cfg0.win 1).blk t).view.emb (ix3 (0 : Fin 1) k (Fin.ofNat 4096 j))) = _
  have he : ((cfg0.win 1).blk t).view.emb (ix3 (0 : Fin 1) k (Fin.ofNat 4096 j)) = ix3 (batch t) k (Fin.ofNat 4096 j) := by
    funext a; apply Fin.ext
    match a with
    | ⟨0, _⟩ => show win0_1.index t (0 : Fin 3) * 1 + 1 * 0 = t.val; omega
    | ⟨1, _⟩ => show win0_1.index t (1 : Fin 3) * 3 + 1 * k.val = k.val; omega
    | ⟨2, _⟩ => show win0_1.index t (2 : Fin 3) * 4096 + 1 * (Fin.ofNat 4096 j).val = (Fin.ofNat 4096 j).val; omega
  rw [he, V_main_v0]
  exact transpose_ix3_021_apply _ _ _ _ _

/-- Batch and place of an element of an output array. -/
abbrev flat (y : S4x1x4096.Idx) : Places.Idx := ix2 (y 0) (y 2)

/-- An element of the first output array's block sits in the block's batch. -/
theorem emb2 (t : Fin cfg0.N) (y : S1x1x4096.Idx) : flat (((cfg0.win 2).blk t).view.emb y) = ix2 (batch t) (y 2) := by
  obtain ⟨e0, e1, e2⟩ := index2 t
  have h0 : (y 0).val < 1 := (y 0).isLt
  refine congrArg₂ ix2 (Fin.ext ?_) (Fin.ext ?_)
  · show win0_2.index t (0 : Fin 3) * 1 + 1 * (y 0).val = t.val
    have : (y 0).val = 0 := by omega
    omega
  · show win0_2.index t (2 : Fin 3) * 4096 + 1 * (y 2).val = (y 2).val; omega

/-- An element of the second output array's block sits in the block's batch. -/
theorem emb3 (t : Fin cfg0.N) (y : S1x1x4096.Idx) : flat (((cfg0.win 3).blk t).view.emb y) = ix2 (batch t) (y 2) := by
  obtain ⟨e0, e1, e2⟩ := index3 t
  have h0 : (y 0).val < 1 := (y 0).isLt
  refine congrArg₂ ix2 (Fin.ext ?_) (Fin.ext ?_)
  · show win0_3.index t (0 : Fin 3) * 1 + 1 * (y 0).val = t.val
    have : (y 0).val = 0 := by omega
    omega
  · show win0_3.index t (2 : Fin 3) * 4096 + 1 * (y 2).val = (y 2).val; omega

/-- The first output array after the pipeline. -/
theorem arr2 (c : Dev nD) : (dats m 0 c).arrAt 2 cfg0.N = fun y : S4x1x4096.Idx => toSecond (arg0 m c) (arg1 m c) (flat y) := by
  refine (dats m 0 c).arrAt_eq_of_covers 2 _ (by decide +kernel) fun t _ y => ?_
  show (dats m 0 c).after 2 t y = toSecond (arg0 m c) (arg1 m c) (flat (((cfg0.win 2).blk t).view.emb y))
  rw [after0_2, emb2]
  refine (out0_2_apply _ _ y).trans ?_
  rw [nearest, px_iblk, py_iblk]
  rfl

/-- The second output array after the pipeline. -/
theorem arr3 (c : Dev nD) : (dats m 0 c).arrAt 3 cfg0.N = fun y : S4x1x4096.Idx => toFirst (arg0 m c) (arg1 m c) (flat y) := by
  refine (dats m 0 c).arrAt_eq_of_covers 3 _ (by decide +kernel) fun t _ y => ?_
  show (dats m 0 c).after 3 t y = toFirst (arg0 m c) (arg1 m c) (flat (((cfg0.win 3).blk t).view.emb y))
  rw [after0_3, emb3]
  refine (out0_3_apply _ _ y).trans ?_
  rw [px_iblk, py_iblk]
  rfl

/-- Dropping an output array's middle axis keeps batch and place. -/
theorem reshaped (f : Places.Idx → BitVec 32) :
    shapeCast S4x4096 (fun y : S4x1x4096.Idx => f (flat y)) shapeCasts_S4x1x4096_S4x4096 = f := by
  funext y
  obtain ⟨b, i, rfl⟩ : ∃ b i, y = ix2 b i := ⟨_, _, eq_ix2 y⟩
  refine (shapeCast_apply _ _ _ (ix3 b (0 : Fin 1) i) ?_).trans rfl
  rw [Shape.rowMajor_val_three, Shape.rowMajor_val_two]
  show (b.val * 1 + 0) * 4096 + i.val = b.val * 4096 + i.val
  omega

/-- The first result after the host's lines. -/
theorem tail2 (c : Dev nD) :
    Pipeline.afterTail₀ cfgs (dats m) 0 (V0 m) [hostOps1] c main_v2 = toSecond (arg0 m c) (arg1 m c) := by
  have h := (Pipeline.withArrays_arr spec0 launch0.win.arr_inj c (V0 m c) (fun w => (dats m 0 c).arrAt w cfg0.N) 2).trans (arr2 m c)
  refine Eq.trans ?_ (reshaped _)
  rw [← h]
  show StableHlo.after (List.flatten [hostOps1]) _ (Proc.devRef .tc main_v2) = _
  simp only [hostOps1, List.flatten_cons, List.flatten_nil, List.append_nil]
  after_results
  rfl

/-- The second result after the host's lines. -/
theorem tail3 (c : Dev nD) :
    Pipeline.afterTail₀ cfgs (dats m) 0 (V0 m) [hostOps1] c main_v3 = toFirst (arg0 m c) (arg1 m c) := by
  have h := (Pipeline.withArrays_arr spec0 launch0.win.arr_inj c (V0 m c) (fun w => (dats m 0 c).arrAt w cfg0.N) 3).trans (arr3 m c)
  refine Eq.trans ?_ (reshaped _)
  rw [← h]
  show StableHlo.after (List.flatten [hostOps1]) _ (Proc.devRef .tc main_v3) = _
  simp only [hostOps1, List.flatten_cons, List.flatten_nil, List.append_nil]
  after_results
  rfl

/-- The kernel's run: both results are the plain mathematics of the arguments, which end as they were. -/
theorem run : θ_run defs (onTc (τ := τ) (main (F := Ideal))) ⟨m, fun _ => 0, ρ⟩ fun r => ∀ c : Dev nD,
      r.2.mem ((c : Thread nD τ).loc main_v2) = toSecond (arg0 m c) (arg1 m c)
      ∧ r.2.mem ((c : Thread nD τ).loc main_v3) = toFirst (arg0 m c) (arg1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h.1 c).2 main_v2 (Pipeline.mem_restRefs_of main_v2 (by decide) (by decide))).trans (tail2 m c),
      ((h.1 c).2 main_v3 (Pipeline.mem_restRefs_of main_v3 (by decide) (by decide))).trans (tail3 m c), h.2 c⟩)
    (θ_run_and (run_main m ρ) (unchanged m ρ))

end Cert.KernelIdeal.Arrays
-- ==== Proof.ArgMin.lean ====
/-
  What the reference's arg-min returns along one axis, over the extended reals: the first place of the axis's least value.

  The reduction folds pairs (value, place), keeping of two the one with the smaller value, and at equal values the one with
  the smaller place (`reducer_eq`). So its result is one of the pairs folded and is before all of them (`foldl_before`,
  `foldl_mem`), whatever their order.
-/
module

public import proofs.«01_k».proof.ReferenceIdeal
public import proofs.«01_k».proof.Proof.FirstMin
public import proofs.«01_k».proof.Proof.Words
public import Idealize.ShloMosaic.PureOps.Ideal.Laws

@[expose] public section

noncomputable section

namespace Cert.ReferenceIdeal.ArgMin

open Idealize.ShloMosaic Cert.ReferenceIdeal Cert.FirstMin

/-- A value with its place. -/
abbrev Pair : Type := EReal × BitVec 32

/-- The reduction's body on two pairs. -/
abbrev reducer : Pair → Pair → Pair := reducer_argmin_f32_i32 (F := Ideal)

/-- `p` is before `q`: a smaller value, or an equal value at a place no later. -/
def Before (p q : Pair) : Prop := p.1 < q.1 ∨ (p.1 = q.1 ∧ p.2.toInt ≤ q.2.toInt)

theorem Before.refl (p : Pair) : Before p p := .inr ⟨rfl, le_rfl⟩

theorem Before.trans {p q r : Pair} (h : Before p q) (h' : Before q r) : Before p r := by
  rcases h with h | ⟨h, hi⟩ <;> rcases h' with h' | ⟨h', hi'⟩
  · exact .inl (h.trans h')
  · exact .inl (h' ▸ h)
  · exact .inl (h ▸ h')
  · exact .inr ⟨h.trans h', hi.trans hi'⟩

/-- The body keeps the pair that is strictly before, and the second if neither is. -/
theorem reducer_eq (p q : Pair) : reducer p q = if p.1 < q.1 ∨ (p.1 = q.1 ∧ p.2.toInt < q.2.toInt) then p else q := by
  obtain ⟨a, i⟩ := p
  obtain ⟨b, j⟩ := q
  have hu : FloatOps.cmpf (F := Ideal) (φ := .f32) .une a a = 0#1 := by
    show BitVec.ofBool (decide (a ≠ a)) = 0#1
    rw [decide_eq_false (by simp)]; rfl
  have hslt : IntOp.cmpi .slt i j = BitVec.ofBool (decide (i.toInt < j.toInt)) := by
    show BitVec.ofBool (BitVec.slt i j) = _
    rfl
  show (Scalar.select (IntOp.ori (BitVec.ofBool (decide (a < b))) (FloatOps.cmpf (F := Ideal) (φ := .f32) .une a a)) a b,
    Scalar.select (IntOp.ori (IntOp.ori (BitVec.ofBool (decide (a < b))) (FloatOps.cmpf (F := Ideal) (φ := .f32) .une a a))
      (IntOp.andi (BitVec.ofBool (decide (a = b))) (IntOp.cmpi .slt i j))) i j) = _
  rw [hu, hslt]
  by_cases hlt : a < b
  · have hne : a ≠ b := ne_of_lt hlt
    rw [if_pos (.inl hlt), decide_eq_true hlt, decide_eq_false hne]
    cases decide (i.toInt < j.toInt) <;> rfl
  · by_cases he : a = b
    · subst he
      by_cases hi : i.toInt < j.toInt
      · rw [if_pos (.inr ⟨rfl, hi⟩), decide_eq_false hlt, decide_eq_true rfl, decide_eq_true hi]; rfl
      · rw [if_neg (by rintro (h | ⟨_, h⟩) <;> contradiction), decide_eq_false hlt, decide_eq_true rfl,
          decide_eq_false hi]
        rfl
    · rw [if_neg (by rintro (h | ⟨h, _⟩) <;> contradiction), decide_eq_false hlt, decide_eq_false he]
      cases decide (i.toInt < j.toInt) <;> rfl

/-- What the body keeps is before both. -/
theorem reducer_before (p q : Pair) : Before (reducer p q) p ∧ Before (reducer p q) q := by
  rw [reducer_eq]
  split
  · rename_i h
    exact ⟨.refl p, h.imp id fun h => ⟨h.1, h.2.le⟩⟩
  · rename_i h
    rw [not_or, not_and, not_lt] at h
    refine ⟨?_, .refl q⟩
    rcases h.1.lt_or_eq with hlt | heq
    · exact .inl hlt
    · exact .inr ⟨heq, not_lt.1 (h.2 heq.symm)⟩

/-- The fold's result is before the pair it starts from and every pair folded. -/
theorem foldl_before (L : List Pair) : ∀ p : Pair, Before (L.foldl reducer p) p ∧ ∀ q ∈ L, Before (L.foldl reducer p) q := by
  induction L with
  | nil => exact fun p => ⟨.refl p, fun q hq => absurd hq (List.not_mem_nil)⟩
  | cons r L ih =>
    intro p
    obtain ⟨h, hL⟩ := ih (reducer p r)
    obtain ⟨hp, hr⟩ := reducer_before p r
    refine ⟨h.trans hp, fun q hq => ?_⟩
    rcases List.mem_cons.1 hq with rfl | hq
    · exact h.trans hr
    · exact hL q hq

/-- The fold's result is the pair it starts from or a pair folded. -/
theorem foldl_mem (L : List Pair) : ∀ p : Pair, L.foldl reducer p = p ∨ L.foldl reducer p ∈ L := by
  induction L with
  | nil => exact fun p => .inl rfl
  | cons r L ih =>
    intro p
    rcases ih (reducer p r) with h | h
    · have hc : reducer p r = p ∨ reducer p r = r := by
        rw [reducer_eq]; split
        · exact .inl rfl
        · exact .inr rfl
      rw [List.foldl_cons, h]
      exact hc.imp id fun e => List.mem_cons.2 (.inl e)
    · exact .inr (List.mem_cons_of_mem r h)

/-- Folded over the values `f 0 … f (N - 1)` with their places, in any order, from `+∞` at place 0, the place is where `f`
    first takes its least value. -/
theorem foldl_place (L : List Pair) (f : ℕ → EReal) {N : ℕ} (hN : 0 < N) (hN' : N < 2 ^ 31)
    (hmem : ∀ q ∈ L, ∃ n < N, q = (f n, BitVec.ofNat 32 n)) (hall : ∀ n < N, (f n, BitVec.ofNat 32 n) ∈ L) :
    (L.foldl reducer (⊤, 0#32)).2 = BitVec.ofNat 32 (firstIdx f N) := by
  obtain ⟨-, hle⟩ := foldl_before L (⊤, 0#32)
  obtain ⟨n, hn, hr2, hr⟩ : ∃ n < N, (L.foldl reducer (⊤, 0#32)).2 = BitVec.ofNat 32 n
      ∧ (((L.foldl reducer (⊤, 0#32)).1 = ⊤ ∧ n = 0) ∨ (n < N ∧ (L.foldl reducer (⊤, 0#32)).1 = f n)) := by
    rcases foldl_mem L (⊤, 0#32) with h | h
    · rw [h]; exact ⟨0, hN, rfl, .inl ⟨rfl, rfl⟩⟩
    · obtain ⟨n, hn, he⟩ := hmem _ h
      rw [he]; exact ⟨n, hn, rfl, .inr ⟨hn, rfl⟩⟩
  have hfirst : FirstMin f N n := by
    refine firstMin_of_lexLe hN (fun i hi => ?_) hr
    rcases hle _ (hall i hi) with h | ⟨h, hp⟩
    · exact .inl h
    · rw [hr2, Words.toInt_ofNat (by omega), Words.toInt_ofNat (by omega)] at hp
      exact .inr ⟨h, by exact_mod_cast hp⟩
  rw [hr2, hfirst.firstIdx_eq]

/-- The host's arg-min along one axis of `N` places, read at an index: the first place of the least of the values along
    that axis, with some value. -/
theorem argMin_single {s t u : Shape} {a : Fin s.rank} (h' : s.ReducesTo [a] t) (h : s.Reduces [a] t) (hu : 0 < u.numel)
    (x : FVec Ideal s .f32) (y : s.Idx → BitVec 32) (ix : u.Idx → EReal) (iy : u.Idx → BitVec 32) (j : t.Idx)
    (f : ℕ → EReal) (N : ℕ) (hs : s.size a = N) (hN : 0 < N) (hN' : N < 2 ^ 31)
    (hx : ∀ k : Fin (s.size a), x (h.lift j k) = f k.val) (hy : ∀ i : s.Idx, y i = BitVec.ofNat 32 (i a).val)
    (hix : ∀ i, ix i = ⊤) (hiy : ∀ i, iy i = 0#32) :
    ∃ v : EReal, Host.argReduce (F := Ideal) (φ := .f32) (reducer_argmin_f32_i32 (F := Ideal)) x y ix iy h' hu j
      = (v, BitVec.ofNat 32 (firstIdx f N)) := by
  subst hs
  have hlift : ∀ k : Fin (s.size a), (h.lift j k a).val = k.val := fun k => dif_pos rfl
  rw [Ideal.argReduce_eq_reduce2, Host.reduce2_eq_foldl_fiber, hix, hiy]
  refine ⟨((Host.argReduceFiber x y h' j).foldl reducer (⊤, 0#32)).1, Prod.ext rfl ?_⟩
  refine foldl_place _ f hN hN' (fun q hq => ?_) (fun n hn => ?_)
  · obtain ⟨p, hp, rfl⟩ := List.mem_map.1 hq
    have hd : h.drop (s.rowMajor.symm p) = j := by
      have := (List.mem_filter.1 hp).2
      rw [← Shape.ReducesTo.drop_eq_drop h' h]
      exact of_decide_eq_true this
    refine ⟨((s.rowMajor.symm p) a).val, ((s.rowMajor.symm p) a).isLt, ?_⟩
    have hl := h.lift_drop (s.rowMajor.symm p)
    rw [hd] at hl
    rw [← hx, hl, hy]
  · refine List.mem_map.2 ⟨s.rowMajor (h.lift j ⟨n, hn⟩), List.mem_filter.2 ⟨List.mem_finRange _, ?_⟩, ?_⟩
    · rw [Equiv.symm_apply_apply, Shape.ReducesTo.drop_eq_drop h' h, h.drop_lift]
      exact decide_eq_true rfl
    · rw [Equiv.symm_apply_apply, hx, hy, hlift]

end Cert.ReferenceIdeal.ArgMin
-- ==== Proof.RefValue.lean ====
/-
  What the reference's operations compute, over the extended reals: the array of distances between the points of the two
  clouds (`distances_apply`), and the first place of the least distance along each of its last two axes (`argLast_eq`,
  `argMiddle_eq`).
-/
module

public import proofs.«01_k».proof.Proof.ArgMin
public import proofs.«01_k».proof.Proof.Gen.ReferenceIdeal
public import proofs.«01_k».proof.Proof.Spec
public import Idealize.ShloMosaic.Lib.IdealHost
public import Idealize.ShloMosaic.Lib.Pipeline.Value
public import Idealize.ShloMosaic.Lib.ValueIdx

@[expose] public section

noncomputable section

namespace Cert.ReferenceIdeal.RefValue

open Idealize.ShloMosaic
open Idealize.ShloMosaic.ValueIdx Cert.ReferenceIdeal Cert.ReferenceIdeal.Facts₀ Cert.Spec Cert.Distance
open scoped BigOperators

/-- The sum over the coordinates of a cloud's point, from the constant zero. -/
abbrev coordSum (x : FVec Ideal S4x4096x3 .f32) : FVec Ideal S4x4096 .f32 :=
  Host.reduceAdd x (constant (F := Ideal) S_ .f32 0x00000000#32) reducesTo_S4x4096x3_S4x4096_d2 h_S_

/-- The products of the first cloud's points with the second's. -/
abbrev inner (A B : FVec Ideal S4x4096x3 .f32) : FVec Ideal S4x4096x4096 .f32 :=
  Host.dotGeneral dot_S4x4096x3_S4x4096x3_S4x4096x4096_2_2_1_1_0_0 none A B

/-- The reference's array of distances. -/
abbrev distances (A B : FVec Ideal S4x4096x3 .f32) : FVec Ideal S4x4096x4096 .f32 :=
  subf (addf
      (broadcastInDim S4x4096x4096 ![0, 1, 2] bcast_S4x4096x1_S4x4096x4096_0_1_2
        (broadcastInDim S4x4096x1 ![0, 1] bcast_S4x4096_S4x4096x1_0_1 (coordSum (mulf A A))))
      (broadcastInDim S4x4096x4096 ![0, 1, 2] bcast_S4x1x4096_S4x4096x4096_0_1_2
        (broadcastInDim S4x1x4096 ![0, 2] bcast_S4x4096_S4x1x4096_0_2 (coordSum (mulf B B)))))
    (mulf (broadcastInDim S4x4096x4096 ![] bcast_S_S4x4096x4096 (constant (F := Ideal) S_ .f32 0x40000000#32)) (inner A B))

/-- The point at a place of the array is the cloud's row there. -/
theorem points_val (A : Clouds.Idx → EReal) (b : Fin 4) (i : Fin 4096) (k : Fin 3) : points A b i.val k = A (ix3 b i k) :=
  congrArg (fun n => A (ix3 b n k)) (Fin.ext (Nat.mod_eq_of_lt i.isLt))

/-- The sum at a point is over that point's coordinates. -/
theorem coordSum_apply (x : FVec Ideal S4x4096x3 .f32) (b : Fin 4) (i : Fin 4096) :
    coordSum x (ix2 b i) = ∑ k : Fin 3, x (ix3 b i k) := by
  have hr : S4x4096x3.Reduces [2] S4x4096 := by decide
  have h0 : constant (F := Ideal) S_ .f32 0x00000000#32 (Shape.Idx.first h_S_) = 0 := Ideal.ofBits_zero_f32
  show Host.reduceAdd x _ _ _ _ = _
  rw [hostReduceAdd_apply, h0, Ideal.hostReduceAdd_single reducesTo_S4x4096x3_S4x4096_d2 hr, zero_add]
  refine Finset.sum_congr rfl fun k _ => congrArg x ?_
  exact eq_ix3 _

/-- The product at a pair of points is the sum over the coordinates. -/
theorem inner_apply (A B : FVec Ideal S4x4096x3 .f32) (b : Fin 4) (i j : Fin 4096) :
    inner A B (ix3 b i j) = ∑ k : Fin 3, A (ix3 b i k) * B (ix3 b j k) := by
  simp only [inner, Host.dotGeneral]
  rw [Ideal.dotGeneral_apply,
    ← Equiv.sum_comp (contrEquiv1 dot_S4x4096x3_S4x4096x3_S4x4096x4096_2_2_1_1_0_0 3 rfl rfl).symm]
  refine Finset.sum_congr rfl fun k _ => ?_
  have hk := contrEquiv1_symm_val dot_S4x4096x3_S4x4096x3_S4x4096x4096_2_2_1_1_0_0 3 rfl rfl k
  congr 1
  · refine congrArg A (funext fun a => Fin.ext ?_)
    match a with
    | ⟨0, _⟩ => rfl
    | ⟨1, _⟩ => rfl
    | ⟨2, _⟩ => exact hk
  · refine congrArg B (funext fun a => Fin.ext ?_)
    match a with
    | ⟨0, _⟩ => rfl
    | ⟨1, _⟩ => rfl
    | ⟨2, _⟩ => exact hk

/-- The array holds, for each pair of points of a batch, their squared distance. -/
theorem distances_apply (A B : FVec Ideal S4x4096x3 .f32) (b : Fin 4) (i j : Fin 4096) :
    distances A B (ix3 b i j) = Distance.dist (points A b) (points B b) i.val j.val := by
  rw [dist_eq_twice]
  simp only [points_val]
  have hl : broadcastInDim S4x4096x4096 ![0, 1, 2] bcast_S4x4096x1_S4x4096x4096_0_1_2
      (broadcastInDim S4x4096x1 ![0, 1] bcast_S4x4096_S4x4096x1_0_1 (coordSum (mulf A A))) (ix3 b i j)
      = coordSum (mulf A A) (ix2 b i) := by
    rw [broadcastInDim_apply _ _ _ _ (ix3 b i 0) fun a => by fin_cases a <;> rfl,
      broadcastInDim_apply _ _ _ _ (ix2 b i) fun a => by fin_cases a <;> rfl]
  have hr : broadcastInDim S4x4096x4096 ![0, 1, 2] bcast_S4x1x4096_S4x4096x4096_0_1_2
      (broadcastInDim S4x1x4096 ![0, 2] bcast_S4x4096_S4x1x4096_0_2 (coordSum (mulf B B))) (ix3 b i j)
      = coordSum (mulf B B) (ix2 b j) := by
    rw [broadcastInDim_apply _ _ _ _ (ix3 b 0 j) fun a => by fin_cases a <;> rfl,
      broadcastInDim_apply _ _ _ _ (ix2 b j) fun a => by fin_cases a <;> rfl]
  have h2 : broadcastInDim S4x4096x4096 ![] bcast_S_S4x4096x4096 (constant (F := Ideal) S_ .f32 0x40000000#32) (ix3 b i j)
      = ((2 : ℝ) : EReal) := (broadcastInDim_scalar_apply ..).trans Words.two_word
  show (_ + _ : EReal) - _ * _ = _
  rw [hl, hr, h2, coordSum_apply, coordSum_apply, inner_apply]
  rfl

/-- The place `k` along the last axis over a place of the result. -/
theorem lift_last (hr : S4x4096x4096.Reduces [2] S4x4096) (y : S4x4096.Idx) (k : Fin 4096) :
    hr.lift y k = ix3 (y 0) (y 1) k := by
  funext a
  apply Fin.ext
  match a with
  | ⟨0, _⟩ => rfl
  | ⟨1, _⟩ => rfl
  | ⟨2, _⟩ => rfl

/-- The place `k` along the middle axis over a place of the result. -/
theorem lift_middle (hr : S4x4096x4096.Reduces [1] S4x4096) (y : S4x4096.Idx) (k : Fin 4096) :
    hr.lift y k = ix3 (y 0) k (y 1) := by
  funext a
  apply Fin.ext
  match a with
  | ⟨0, _⟩ => rfl
  | ⟨1, _⟩ => rfl
  | ⟨2, _⟩ => rfl

/-- The arg-min along the last axis is, for each point of the first cloud, the first nearest point of the second. -/
theorem argLast_eq (A B : FVec Ideal S4x4096x3 .f32) :
    (fun y => (Host.argReduce (F := Ideal) (φ := .f32) (reducer_argmin_f32_i32 (F := Ideal)) (distances A B)
      (iotaInDim S4x4096x4096 32 2) (constant (F := Ideal) S_ .f32 0x7F800000#32) (constantI S_ 32 0#32)
      reducesTo_S4x4096x4096_S4x4096_d2 h_S_ y).2) = toSecond A B := by
  funext y
  have hr : S4x4096x4096.Reduces [2] S4x4096 := by decide
  have hx : ∀ k : Fin 4096, distances A B (hr.lift y k) = Distance.dist (points A (y 0)) (points B (y 0)) (y 1).val k.val := fun k =>
    (congrArg (distances A B) (lift_last hr y k)).trans (distances_apply A B (y 0) (y 1) k)
  obtain ⟨v, h⟩ := ArgMin.argMin_single reducesTo_S4x4096x4096_S4x4096_d2 hr h_S_ (distances A B)
    (iotaInDim S4x4096x4096 32 2) (constant (F := Ideal) S_ .f32 0x7F800000#32) (constantI S_ 32 0#32) y
    (fun n => Distance.dist (points A (y 0)) (points B (y 0)) (y 1).val n) 4096 rfl (by norm_num) (by norm_num)
    hx (iotaInDim_apply 32 2) (fun _ => Words.top_word) (fun _ => rfl)
  rw [h]
  rfl

/-- The arg-min along the middle axis is, for each point of the second cloud, the first nearest point of the first. -/
theorem argMiddle_eq (A B : FVec Ideal S4x4096x3 .f32) :
    (fun y => (Host.argReduce (F := Ideal) (φ := .f32) (reducer_argmin_f32_i32 (F := Ideal)) (distances A B)
      (iotaInDim S4x4096x4096 32 1) (constant (F := Ideal) S_ .f32 0x7F800000#32) (constantI S_ 32 0#32)
      reducesTo_S4x4096x4096_S4x4096_d1 h_S_ y).2) = toFirst A B := by
  funext y
  have hr : S4x4096x4096.Reduces [1] S4x4096 := by decide
  have hx : ∀ k : Fin 4096, distances A B (hr.lift y k) = Distance.dist (points A (y 0)) (points B (y 0)) k.val (y 1).val := fun k =>
    (congrArg (distances A B) (lift_middle hr y k)).trans (distances_apply A B (y 0) k (y 1))
  obtain ⟨v, h⟩ := ArgMin.argMin_single reducesTo_S4x4096x4096_S4x4096_d1 hr h_S_ (distances A B)
    (iotaInDim S4x4096x4096 32 1) (constant (F := Ideal) S_ .f32 0x7F800000#32) (constantI S_ 32 0#32) y
    (fun n => Distance.dist (points A (y 0)) (points B (y 0)) n (y 1).val) 4096 rfl (by norm_num) (by norm_num)
    hx (iotaInDim_apply 32 1) (fun _ => Words.top_word) (fun _ => rfl)
  rw [h]
  rfl

end Cert.ReferenceIdeal.RefValue
-- ==== Proof.RefRun.lean ====
/-
  The reference runs to its end: a straight line of operations on the host, whose two results are the places its arg-mins
  return, and whose arguments stay.
-/
module

public import proofs.«01_k».proof.Proof.RefValue
public import Idealize.ShloMosaic.Lib.StableHlo.Run
public import Idealize.ShloMosaic.Lib.Tactic
public import Idealize.ShloMosaic.Lib.Quiescent

@[expose] public section

noncomputable section

namespace Cert.ReferenceIdeal.RefRun

open Idealize.ShloMosaic Idealize.ShloMosaic.StableHlo Idealize.ShloMosaic.TcCoe Idealize.SL.Sem
open Cert.ReferenceIdeal Cert.ReferenceIdeal.Facts₀ Cert.ReferenceIdeal.RefValue Cert.Spec

/-- The reference's operations in their order, those of the two arg-mins it calls included. -/
abbrev ops {F : FTy → Type} [FloatOps F] : List (HloOp τ sig (Elt F)) :=
  [binary main_arg0 main_arg0 main_v0 (mulf :
      (⟨S4x4096x3, .f32⟩ : BufTy).Contents (Elt F) → (⟨S4x4096x3, .f32⟩ : BufTy).Contents (Elt F) → (⟨S4x4096x3, .f32⟩ : BufTy).Contents (Elt F)),
    nullary main_cst (constant S_ .f32 0x00000000#32),
    binary main_v0 main_cst main_v1 ((fun x v => Host.reduceAdd x v reducesTo_S4x4096x3_S4x4096_d2 h_S_) :
      (⟨S4x4096x3, .f32⟩ : BufTy).Contents (Elt F) → (⟨S_, .f32⟩ : BufTy).Contents (Elt F) → (⟨S4x4096, .f32⟩ : BufTy).Contents (Elt F)),
    unary main_v1 main_v2 (broadcastInDim S4x4096x1 ![0, 1] bcast_S4x4096_S4x4096x1_0_1 :
      (⟨S4x4096, .f32⟩ : BufTy).Contents (Elt F) → (⟨S4x4096x1, .f32⟩ : BufTy).Contents (Elt F)),
    binary main_arg1 main_arg1 main_v3 (mulf :
      (⟨S4x4096x3, .f32⟩ : BufTy).Contents (Elt F) → (⟨S4x4096x3, .f32⟩ : BufTy).Contents (Elt F) → (⟨S4x4096x3, .f32⟩ : BufTy).Contents (Elt F)),
    nullary main_cst_0 (constant S_ .f32 0x00000000#32),
    binary main_v3 main_cst_0 main_v4 ((fun x v => Host.reduceAdd x v reducesTo_S4x4096x3_S4x4096_d2 h_S_) :
      (⟨S4x4096x3, .f32⟩ : BufTy).Contents (Elt F) → (⟨S_, .f32⟩ : BufTy).Contents (Elt F) → (⟨S4x4096, .f32⟩ : BufTy).Contents (Elt F)),
    unary main_v4 main_v5 (broadcastInDim S4x1x4096 ![0, 2] bcast_S4x4096_S4x1x4096_0_2 :
      (⟨S4x4096, .f32⟩ : BufTy).Contents (Elt F) → (⟨S4x1x4096, .f32⟩ : BufTy).Contents (Elt F)),
    binary main_arg0 main_arg1 main_v6 ((fun l r => Host.dotGeneral dot_S4x4096x3_S4x4096x3_S4x4096x4096_2_2_1_1_0_0 none l r) :
      (⟨S4x4096x3, .f32⟩ : BufTy).Contents (Elt F) → (⟨S4x4096x3, .f32⟩ : BufTy).Contents (Elt F) → (⟨S4x4096x4096, .f32⟩ : BufTy).Contents (Elt F)),
    unary main_v2 main_v7 (broadcastInDim S4x4096x4096 ![0, 1, 2] bcast_S4x4096x1_S4x4096x4096_0_1_2 :
      (⟨S4x4096x1, .f32⟩ : BufTy).Contents (Elt F) → (⟨S4x4096x4096, .f32⟩ : BufTy).Contents (Elt F)),
    unary main_v5 main_v8 (broadcastInDim S4x4096x4096 ![0, 1, 2] bcast_S4x1x4096_S4x4096x4096_0_1_2 :
      (⟨S4x1x4096, .f32⟩ : BufTy).Contents (Elt F) → (⟨S4x4096x4096, .f32⟩ : BufTy).Contents (Elt F)),
    binary main_v7 main_v8 main_v9 (addf :
      (⟨S4x4096x4096, .f32⟩ : BufTy).Contents (Elt F) → (⟨S4x4096x4096, .f32⟩ : BufTy).Contents (Elt F) → (⟨S4x4096x4096, .f32⟩ : BufTy).Contents (Elt F)),
    nullary main_cst_1 (constant S_ .f32 0x40000000#32),
    unary main_cst_1 main_v10 (broadcastInDim S4x4096x4096 ![] bcast_S_S4x4096x4096 :
      (⟨S_, .f32⟩ : BufTy).Contents (Elt F) → (⟨S4x4096x4096, .f32⟩ : BufTy).Contents (Elt F)),
    binary main_v10 main_v6 main_v11 (mulf :
      (⟨S4x4096x4096, .f32⟩ : BufTy).Contents (Elt F) → (⟨S4x4096x4096, .f32⟩ : BufTy).Contents (Elt F) → (⟨S4x4096x4096, .f32⟩ : BufTy).Contents (Elt F)),
    binary main_v9 main_v11 main_v12 (subf :
      (⟨S4x4096x4096, .f32⟩ : BufTy).Contents (Elt F) → (⟨S4x4096x4096, .f32⟩ : BufTy).Contents (Elt F) → (⟨S4x4096x4096, .f32⟩ : BufTy).Contents (Elt F)),
    nullary main_call0_v0 (iotaInDim S4x4096x4096 32 2 : (⟨S4x4096x4096, .i32⟩ : BufTy).Contents (Elt F)),
    nullary main_call0_cst (constant S_ .f32 0x7F800000#32 : (⟨S_, .f32⟩ : BufTy).Contents (Elt F)),
    nullary main_call0_c (constantI S_ 32 0#32 : (⟨S_, .i32⟩ : BufTy).Contents (Elt F)),
    quaternary main_v12 main_call0_v0 main_call0_cst main_call0_c main_call0_v1_0
      ((fun x y u v j => (Host.argReduce reducer_argmin_f32_i32 x y u v reducesTo_S4x4096x4096_S4x4096_d2 h_S_ j).1) :
        (⟨S4x4096x4096, .f32⟩ : BufTy).Contents (Elt F) → (⟨S4x4096x4096, .i32⟩ : BufTy).Contents (Elt F) →
        (⟨S_, .f32⟩ : BufTy).Contents (Elt F) → (⟨S_, .i32⟩ : BufTy).Contents (Elt F) → (⟨S4x4096, .f32⟩ : BufTy).Contents (Elt F)),
    quaternary main_v12 main_call0_v0 main_call0_cst main_call0_c main_v13
      ((fun x y u v j => (Host.argReduce reducer_argmin_f32_i32 x y u v reducesTo_S4x4096x4096_S4x4096_d2 h_S_ j).2) :
        (⟨S4x4096x4096, .f32⟩ : BufTy).Contents (Elt F) → (⟨S4x4096x4096, .i32⟩ : BufTy).Contents (Elt F) →
        (⟨S_, .f32⟩ : BufTy).Contents (Elt F) → (⟨S_, .i32⟩ : BufTy).Contents (Elt F) → (⟨S4x4096, .i32⟩ : BufTy).Contents (Elt F)),
    nullary main_call1_v0 (iotaInDim S4x4096x4096 32 1 : (⟨S4x4096x4096, .i32⟩ : BufTy).Contents (Elt F)),
    nullary main_call1_cst (constant S_ .f32 0x7F800000#32 : (⟨S_, .f32⟩ : BufTy).Contents (Elt F)),
    nullary main_call1_c (constantI S_ 32 0#32 : (⟨S_, .i32⟩ : BufTy).Contents (Elt F)),
    quaternary main_v12 main_call1_v0 main_call1_cst main_call1_c main_call1_v1_0
      ((fun x y u v j => (Host.argReduce reducer_argmin_f32_i32 x y u v reducesTo_S4x4096x4096_S4x4096_d1 h_S_ j).1) :
        (⟨S4x4096x4096, .f32⟩ : BufTy).Contents (Elt F) → (⟨S4x4096x4096, .i32⟩ : BufTy).Contents (Elt F) →
        (⟨S_, .f32⟩ : BufTy).Contents (Elt F) → (⟨S_, .i32⟩ : BufTy).Contents (Elt F) → (⟨S4x4096, .f32⟩ : BufTy).Contents (Elt F)),
    quaternary main_v12 main_call1_v0 main_call1_cst main_call1_c main_v14
      ((fun x y u v j => (Host.argReduce reducer_argmin_f32_i32 x y u v reducesTo_S4x4096x4096_S4x4096_d1 h_S_ j).2) :
        (⟨S4x4096x4096, .f32⟩ : BufTy).Contents (Elt F) → (⟨S4x4096x4096, .i32⟩ : BufTy).Contents (Elt F) →
        (⟨S_, .f32⟩ : BufTy).Contents (Elt F) → (⟨S_, .i32⟩ : BufTy).Contents (Elt F) → (⟨S4x4096, .i32⟩ : BufTy).Contents (Elt F))]

/-- The reference is that list run in order. -/
theorem main_eq (c : Dev nD) : main (F := Ideal) c = seq (ops (F := Ideal)) := rfl

theorem scopedRefs_eq : (Finset.univ.filter fun b : Ref sig .tc => b.isScoped) = ∅ := by decide

theorem scopedSems_eq : (Finset.univ.filter fun sm : SemLoc sig => sm.isScoped .tc) = ∅ := by decide

/-- Every operation touches the host's buffers only. -/
theorem ops_sub : (ops (F := Ideal)).Forall fun op => op.bufs ⊆ tcRefs τ sig :=
  ⟨binary_bufs_sub .., nullary_bufs_sub .., binary_bufs_sub .., unary_bufs_sub .., binary_bufs_sub .., nullary_bufs_sub ..,
    binary_bufs_sub .., unary_bufs_sub .., binary_bufs_sub .., unary_bufs_sub .., unary_bufs_sub .., binary_bufs_sub ..,
    nullary_bufs_sub .., unary_bufs_sub .., binary_bufs_sub .., binary_bufs_sub .., nullary_bufs_sub ..,
    nullary_bufs_sub .., nullary_bufs_sub .., quaternary_bufs_sub .., quaternary_bufs_sub .., nullary_bufs_sub ..,
    nullary_bufs_sub .., nullary_bufs_sub .., quaternary_bufs_sub .., quaternary_bufs_sub ..⟩

variable (m : (ℓ : Loc nD τ sig) → Buf (Elt Ideal) ℓ) (ρ : Dev nD → PrngReg)

/-- The first cloud's array on device `c`. -/
abbrev arg0 (c : Dev nD) : Clouds.Idx → EReal := m ((c : Thread nD τ).loc main_arg0)

/-- The second cloud's array on device `c`. -/
abbrev arg1 (c : Dev nD) : Clouds.Idx → EReal := m ((c : Thread nD τ).loc main_arg1)

/-- Every run ends with the places of the nearest points in the results and the arguments as they were. -/
theorem run :
    θ_run defs (onTc (τ := τ) (main (F := Ideal))) ⟨m, fun _ => 0, ρ⟩ fun r => ∀ c : Dev nD,
      r.2.mem ((c : Thread nD τ).loc main_v13) = toSecond (arg0 m c) (arg1 m c)
      ∧ r.2.mem ((c : Thread nD τ).loc main_v14) = toFirst (arg0 m c) (arg1 m c)
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun _ h c => ⟨?_, ?_, ?_, ?_⟩)
    (run_seq scopedRefs_eq scopedSems_eq defs main (fun _ => ops (F := Ideal)) main_eq (fun _ => ops_sub) m ρ)
  · refine (h c main_v13).trans (Eq.trans ?_ (argLast_eq (arg0 m c) (arg1 m c)))
    after_results
  · refine (h c main_v14).trans (Eq.trans ?_ (argMiddle_eq (arg0 m c) (arg1 m c)))
    after_results
  · exact (h c main_arg0).trans (by after_results)
  · exact (h c main_arg1).trans (by after_results)

end Cert.ReferenceIdeal.RefRun
-- ==== Proof.lean ====
/-
  The certificate: the two kernels and the reference leave their arguments and end with every counter at zero, the
  idealized kernel is the kernel's own code, and on equal arguments the idealized kernel and the reference return the same
  two arrays, those of `Cert.Spec`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Arrays
public import proofs.«01_k».proof.Proof.RefRun
public import Idealize.ShloMosaic.Adequacy
public import Idealize.ShloMosaic.Init

@[expose] public section

noncomputable section

namespace Cert.Proof

open Idealize.ShloMosaic Idealize.SL.Sem

/-- The reference leaves its arguments, and every counter ends at zero. -/
theorem reference_frame : Cert.quiescent_ReferenceIdeal := fun m ρ _ =>
  (θ_run Cert.ReferenceIdeal.defs _ _).mono
    (fun r h => ⟨fun c => (h c).2.2, sem_eq_zero_of_no_sems (by decide) r.2⟩) (Cert.ReferenceIdeal.RefRun.run m ρ)

/-- On equal arguments both programs return the places of the nearest points. -/
theorem same_places : Cert.algebraic_KernelIdeal_ReferenceIdeal := by
  intro m ρ m' ρ' _ hargs
  refine ⟨fun c => Cert.Spec.toSecond (Cert.KernelIdeal.Arrays.arg0 m c) (Cert.KernelIdeal.Arrays.arg1 m c),
    fun c => Cert.Spec.toFirst (Cert.KernelIdeal.Arrays.arg0 m c) (Cert.KernelIdeal.Arrays.arg1 m c),
    Cert.KernelIdeal.Arrays.run m ρ,
    (θ_run Cert.ReferenceIdeal.defs _ _).mono (fun r h c => ?_) (Cert.ReferenceIdeal.RefRun.run m' ρ')⟩
  have h0 : Cert.ReferenceIdeal.RefRun.arg0 m' c = Cert.KernelIdeal.Arrays.arg0 m c := (hargs c).1
  have h1 : Cert.ReferenceIdeal.RefRun.arg1 m' c = Cert.KernelIdeal.Arrays.arg1 m c := (hargs c).2
  obtain ⟨hs, hf, hrest⟩ := h c
  rw [h0, h1] at hs hf
  exact ⟨hs, hf, hrest⟩

/-- The certificate. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, same_places⟩

end Cert.Proof

end
